-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v67_0)) (v1 : (c : Dev Cert.Kernel2Ideal.nD) → Buf (Elt Ideal) ((c.tc : Thread Cert.Kernel2Ideal.nD Cert.Kernel2Ideal.τ).loc Cert.Kernel2Ideal.main_v67_1)) (v2 : (c : Dev Cert.Kernel2Ideal.nD) → Buf (Elt Ideal) ((c.tc : Thread Cert.Kernel2Ideal.nD Cert.Kernel2Ideal.τ).loc Cert.Kernel2Ideal.main_v67_2)) (v3 : (c : Dev Cert.Kernel2Ideal.nD) → Buf (Elt Ideal) ((c.tc : Thread Cert.Kernel2Ideal.nD Cert.Kernel2Ideal.τ).loc Cert.Kernel2Ideal.main_v67_3)) (v4 : (c : Dev Cert.Kernel2Ideal.nD) → Buf (Elt Ideal) ((c.tc : Thread Cert.Kernel2Ideal.nD Cert.Kernel2Ideal.τ).loc Cert.Kernel2Ideal.main_v67_4)) (v5 : (c : Dev Cert.Kernel2Ideal.nD) → Buf (Elt Ideal) ((c.tc : Thread Cert.Kernel2Ideal.nD Cert.Kernel2Ideal.τ).loc Cert.Kernel2Ideal.main_v67_5)) (v6 : (c : Dev Cert.Kernel2Ideal.nD) → Buf (Elt Ideal) ((c.tc : Thread Cert.Kernel2Ideal.nD Cert.Kernel2Ideal.τ).loc Cert.Kernel2Ideal.main_v67_6)) (v7 : (c : Dev Cert.Kernel2Ideal.nD) → Buf (Elt Ideal) ((c.tc : Thread Cert.Kernel2Ideal.nD Cert.Kernel2Ideal.τ).loc Cert.Kernel2Ideal.main_v67_7)) (v8 : (c : Dev Cert.Kernel2Ideal.nD) → Buf (Elt Ideal) ((c.tc : Thread Cert.Kernel2Ideal.nD Cert.Kernel2Ideal.τ).loc Cert.Kernel2Ideal.main_v67_8)) (v9 : (c : Dev Cert.Kernel2Ideal.nD) → Buf (Elt Ideal) ((c.tc : Thread Cert.Kernel2Ideal.nD Cert.Kernel2Ideal.τ).loc Cert.Kernel2Ideal.main_v67_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67_0) = v0 c
          ∧ r.2.mem ((c.tc : Thread Cert.Kernel2Ideal.nD Cert.Kernel2Ideal.τ).loc Cert.Kernel2Ideal.main_v67_1) = v1 c
          ∧ r.2.mem ((c.tc : Thread Cert.Kernel2Ideal.nD Cert.Kernel2Ideal.τ).loc Cert.Kernel2Ideal.main_v67_2) = v2 c
          ∧ r.2.mem ((c.tc : Thread Cert.Kernel2Ideal.nD Cert.Kernel2Ideal.τ).loc Cert.Kernel2Ideal.main_v67_3) = v3 c
          ∧ r.2.mem ((c.tc : Thread Cert.Kernel2Ideal.nD Cert.Kernel2Ideal.τ).loc Cert.Kernel2Ideal.main_v67_4) = v4 c
          ∧ r.2.mem ((c.tc : Thread Cert.Kernel2Ideal.nD Cert.Kernel2Ideal.τ).loc Cert.Kernel2Ideal.main_v67_5) = v5 c
          ∧ r.2.mem ((c.tc : Thread Cert.Kernel2Ideal.nD Cert.Kernel2Ideal.τ).loc Cert.Kernel2Ideal.main_v67_6) = v6 c
          ∧ r.2.mem ((c.tc : Thread Cert.Kernel2Ideal.nD Cert.Kernel2Ideal.τ).loc Cert.Kernel2Ideal.main_v67_7) = v7 c
          ∧ r.2.mem ((c.tc : Thread Cert.Kernel2Ideal.nD Cert.Kernel2Ideal.τ).loc Cert.Kernel2Ideal.main_v67_8) = v8 c
          ∧ r.2.mem ((c.tc : Thread Cert.Kernel2Ideal.nD Cert.Kernel2Ideal.τ).loc Cert.Kernel2Ideal.main_v67_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v159) = v0 c
          ∧ r.2.mem ((c.tc : Thread Cert.Reference2Ideal.nD Cert.Reference2Ideal.τ).loc Cert.Reference2Ideal.main_v160) = v1 c
          ∧ r.2.mem ((c.tc : Thread Cert.Reference2Ideal.nD Cert.Reference2Ideal.τ).loc Cert.Reference2Ideal.main_v161) = v2 c
          ∧ r.2.mem ((c.tc : Thread Cert.Reference2Ideal.nD Cert.Reference2Ideal.τ).loc Cert.Reference2Ideal.main_v162) = v3 c
          ∧ r.2.mem ((c.tc : Thread Cert.Reference2Ideal.nD Cert.Reference2Ideal.τ).loc Cert.Reference2Ideal.main_v163) = v4 c
          ∧ r.2.mem ((c.tc : Thread Cert.Reference2Ideal.nD Cert.Reference2Ideal.τ).loc Cert.Reference2Ideal.main_v164) = v5 c
          ∧ r.2.mem ((c.tc : Thread Cert.Reference2Ideal.nD Cert.Reference2Ideal.τ).loc Cert.Reference2Ideal.main_v165) = v6 c
          ∧ r.2.mem ((c.tc : Thread Cert.Reference2Ideal.nD Cert.Reference2Ideal.τ).loc Cert.Reference2Ideal.main_v166) = v7 c
          ∧ r.2.mem ((c.tc : Thread Cert.Reference2Ideal.nD Cert.Reference2Ideal.τ).loc Cert.Reference2Ideal.main_v167) = v8 c
          ∧ r.2.mem ((c.tc : Thread Cert.Reference2Ideal.nD Cert.Reference2Ideal.τ).loc Cert.Reference2Ideal.main_v168) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x512 : Shape := ⟨2, ![16384, 512]⟩
abbrev S64 : Shape := ⟨1, ![64]⟩
abbrev S128 : Shape := ⟨1, ![128]⟩
abbrev S_ : Shape := ⟨0, ![]⟩

class Facts : Prop where
  bcast_S_S16384x512 : S_.BroadcastsInDim S16384x512 (![] : Fin 0 → Fin S16384x512.rank)
  bcast_S_S64 : S_.BroadcastsInDim S64 (![] : Fin 0 → Fin S64.rank)

variable [Facts]

def fn_part1 {F : FTy → Type} [FloatOps F] (main_arg6 : FVec F S64 .f32) (main_v2 : IVec S16384x512 1) (main_v5 : IVec S16384x512 1) (main_v8 : IVec S16384x512 1) (main_v11 : IVec S64 1) (main_v14 : IVec S64 1) (main_v17 : IVec S64 1) : IVec S16384x512 1 × IVec S16384x512 1 × IVec S16384x512 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S16384x512 .f32) (main_arg1 : FVec F S16384x512 .f32) (main_arg2 : FVec F S16384x512 .f32) (main_arg3 : FVec F S64 .f32) (main_arg4 : FVec F S64 .f32) (main_arg5 : FVec F S64 .f32) (main_arg6 : FVec F S64 .f32) (main_arg7 : FVec F S128 .f32) : IVec S16384x512 1 × IVec S16384x512 1 × IVec S16384x512 1 × IVec S64 1 × IVec S64 1 × IVec S64 1 × IVec S64 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S16384x512 : Shape := ⟨2, ![16384, 512]⟩
abbrev S64 : Shape := ⟨1, ![64]⟩
abbrev S128 : Shape := ⟨1, ![128]⟩
abbrev S_ : Shape := ⟨0, ![]⟩
abbrev S8x128 : Shape := ⟨2, ![8, 128]⟩
abbrev S1 : Shape := ⟨1, ![1]⟩
abbrev S2 : Shape := ⟨1, ![2]⟩
abbrev S1x128 : Shape := ⟨2, ![1, 128]⟩
abbrev S512x512 : Shape := ⟨2, ![512, 512]⟩
abbrev S8192x512 : Shape := ⟨2, ![8192, 512]⟩
abbrev S512x128 : Shape := ⟨2, ![512, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1024x512 : Shape := ⟨2, ![1024, 512]⟩
abbrev S1x1 : Shape := ⟨2, ![1, 1]⟩
abbrev S512 : Shape := ⟨1, ![512]⟩
abbrev S512x1 : Shape := ⟨2, ![512, 1]⟩

abbrev nBuf : Space → Nat
  | .hbm => 45
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S8x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .bf16⟩
  | .hbm, ⟨41, _⟩ => ⟨S16384x512, .bf16⟩
  | .hbm, ⟨42, _⟩ => ⟨S16384x512, .bf16⟩
  | .hbm, ⟨43, _⟩ => ⟨S1x128, .f32⟩
  | .hbm, ⟨44, _⟩ => ⟨S16384x512, .bf16⟩
  | .local _ .vmem, ⟨0, _⟩ => ⟨S8x128, .f32⟩
  | .local _ .vmem, ⟨1, _⟩ => ⟨S1x128, .f32⟩
  | .local _ .vmem, ⟨2, _⟩ => ⟨S512x512, .bf16⟩
  | .local _ .vmem, ⟨3, _⟩ => ⟨S512x512, .bf16⟩
  | .local _ .vmem, ⟨4, _⟩ => ⟨S8192x512, .bf16⟩
  | .local _ .vmem, ⟨5, _⟩ => ⟨S8192x512, .bf16⟩
  | .local _ .vmem, ⟨6, _⟩ => ⟨S512x512, .bf16⟩
  | .local _ .vmem, ⟨7, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 1, 16], ![false, false, false]⟩

@[reducible] def k0_t1_loop (i : grid0.Coords) : Scf.Loop 32 :=
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_33 : BitVec 32 := 1#32
  ⟨c0_i32_31, v78, c1_i32_33⟩
def k0_mult1 (i : grid0.Coords) (k0_t1 : Fin (k0_t1_loop i).trips) : BitVec 32 :=
  let c0_i32_194 : BitVec 32 := 0#32
  let c0_i32_31 : BitVec 32 := 0#32
  let c1_i32_33 : BitVec 32 := 1#32
  let arg9 : BitVec 32 := Scf.iv c0_i32_31 c1_i32_33 k0_t1
  let c1024_i32 : BitVec 32 := 1024#32
  let v600 : BitVec 32 := Scalar.muli arg9 c1024_i32
  let v601 : BitVec 32 := Scalar.addi c0_i32_194 v600
  v601
def k0_off1 (i : grid0.Coords) (k0_t1 : Fin (k0_t1_loop i).trips) : Fin 2 → Nat :=
  let c0_i32_194 : BitVec 32 := 0#32
  let c0_i32_31 : BitVec 32 := 0#32
  let c1_i32_33 : BitVec 32 := 1#32
  let arg9 : BitVec 32 := Scf.iv c0_i32_31 c1_i32_33 k0_t1
  let c1024_i32 : BitVec 32 := 1024#32
  let v600 : BitVec 32 := Scalar.muli arg9 c1024_i32
  let v601 : BitVec 32 := Scalar.addi c0_i32_194 v600
  let v602 : BitVec 32 := v601
  let v603 : Index := Scalar.indexCast v602
  let c0_195 : Index := 0#32
  ![v603.toNat, 0]
def k0_off2 (i : grid0.Coords) (k0_t1 : Fin (k0_t1_loop i).trips) : Fin 2 → Nat :=
  let c0_i32_194 : BitVec 32 := 0#32
  let c0_i32_31 : BitVec 32 := 0#32
  let c1_i32_33 : BitVec 32 := 1#32
  let arg9 : BitVec 32 := Scf.iv c0_i32_31 c1_i32_33 k0_t1
  let c1024_i32 : BitVec 32 := 1024#32
  let v600 : BitVec 32 := Scalar.muli arg9 c1024_i32
  let v601 : BitVec 32 := Scalar.addi c0_i32_194 v600
  let v602 : BitVec 32 := v601
  let v627 : Index := Scalar.indexCast v602
  let c128_201 : Index := 128#32
  ![v627.toNat, 128]
def k0_off3 (i : grid0.Coords) (k0_t1 : Fin (k0_t1_loop i).trips) : Fin 2 → Nat :=
  let c0_i32_194 : BitVec 32 := 0#32
  let c0_i32_31 : BitVec 32 := 0#32
  let c1_i32_33 : BitVec 32 := 1#32
  let arg9 : BitVec 32 := Scf.iv c0_i32_31 c1_i32_33 k0_t1
  let c1024_i32 : BitVec 32 := 1024#32
  let v600 : BitVec 32 := Scalar.muli arg9 c1024_i32
  let v601 : BitVec 32 := Scalar.addi c0_i32_194 v600
  let v602 : BitVec 32 := v601
  let v651 : Index := Scalar.indexCast v602
  let c256_207 : Index := 256#32
  ![v651.toNat, 256]
def k0_off4 (i : grid0.Coords) (k0_t1 : Fin (k0_t1_loop i).trips) : Fin 2 → Nat :=
  let c0_i32_194 : BitVec 32 := 0#32
  let c0_i32_31 : BitVec 32 := 0#32
  let c1_i32_33 : BitVec 32 := 1#32
  let arg9 : BitVec 32 := Scf.iv c0_i32_31 c1_i32_33 k0_t1
  let c1024_i32 : BitVec 32 := 1024#32
  let v600 : BitVec 32 := Scalar.muli arg9 c1024_i32
  let v601 : BitVec 32 := Scalar.addi c0_i32_194 v600
  let v602 : BitVec 32 := v601
  let v675 : Index := Scalar.indexCast v602
  let c384_213 : Index := 384#32
  ![v675.toNat, 384]
@[reducible] def k0_t2_loop (i : grid0.Coords) : Scf.Loop 32 :=
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let v75 : BitVec 32 := Scalar.addi c0_i32_31 v74
  let c1_i32_34 : BitVec 32 := 1#32
  ⟨v78, v75, c1_i32_34⟩
def k0_mult2 (i : grid0.Coords) (k0_t2 : Fin (k0_t2_loop i).trips) : BitVec 32 :=
  let c0_i32_194 : BitVec 32 := 0#32
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_34 : BitVec 32 := 1#32
  let arg9 : BitVec 32 := Scf.iv v78 c1_i32_34 k0_t2
  let c1024_i32 : BitVec 32 := 1024#32
  let v600 : BitVec 32 := Scalar.muli arg9 c1024_i32
  let v601 : BitVec 32 := Scalar.addi c0_i32_194 v600
  v601
def k0_off5 (i : grid0.Coords) (k0_t2 : Fin (k0_t2_loop i).trips) : Fin 2 → Nat :=
  let c0_i32_194 : BitVec 32 := 0#32
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_34 : BitVec 32 := 1#32
  let arg9 : BitVec 32 := Scf.iv v78 c1_i32_34 k0_t2
  let c1024_i32 : BitVec 32 := 1024#32
  let v600 : BitVec 32 := Scalar.muli arg9 c1024_i32
  let v601 : BitVec 32 := Scalar.addi c0_i32_194 v600
  let v602 : BitVec 32 := v601
  let v603 : Index := Scalar.indexCast v602
  let c0_195 : Index := 0#32
  ![v603.toNat, 0]
def k0_off6 (i : grid0.Coords) (k0_t2 : Fin (k0_t2_loop i).trips) : Fin 2 → Nat :=
  let c0_i32_194 : BitVec 32 := 0#32
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_34 : BitVec 32 := 1#32
  let arg9 : BitVec 32 := Scf.iv v78 c1_i32_34 k0_t2
  let c1024_i32 : BitVec 32 := 1024#32
  let v600 : BitVec 32 := Scalar.muli arg9 c1024_i32
  let v601 : BitVec 32 := Scalar.addi c0_i32_194 v600
  let v602 : BitVec 32 := v601
  let v627 : Index := Scalar.indexCast v602
  let c128_201 : Index := 128#32
  ![v627.toNat, 128]
def k0_off7 (i : grid0.Coords) (k0_t2 : Fin (k0_t2_loop i).trips) : Fin 2 → Nat :=
  let c0_i32_194 : BitVec 32 := 0#32
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_34 : BitVec 32 := 1#32
  let arg9 : BitVec 32 := Scf.iv v78 c1_i32_34 k0_t2
  let c1024_i32 : BitVec 32 := 1024#32
  let v600 : BitVec 32 := Scalar.muli arg9 c1024_i32
  let v601 : BitVec 32 := Scalar.addi c0_i32_194 v600
  let v602 : BitVec 32 := v601
  let v651 : Index := Scalar.indexCast v602
  let c256_207 : Index := 256#32
  ![v651.toNat, 256]
def k0_off8 (i : grid0.Coords) (k0_t2 : Fin (k0_t2_loop i).trips) : Fin 2 → Nat :=
  let c0_i32_194 : BitVec 32 := 0#32
  let c0_i32_31 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let v74 : BitVec 32 := Scalar.subi v73 c0_i32_31
  let c1_i32_32 : BitVec 32 := 1#32
  let v76 : BitVec 32 := Scalar.divsi v74 c1_i32_32
  let v77 : BitVec 32 := Scalar.muli v76 c1_i32_32
  let v78 : BitVec 32 := Scalar.addi c0_i32_31 v77
  let c1_i32_34 : BitVec 32 := 1#32
  let arg9 : BitVec 32 := Scf.iv v78 c1_i32_34 k0_t2
  let c1024_i32 : BitVec 32 := 1024#32
  let v600 : BitVec 32 := Scalar.muli arg9 c1024_i32
  let v601 : BitVec 32 := Scalar.addi c0_i32_194 v600
  let v602 : BitVec 32 := v601
  let v675 : Index := Scalar.indexCast v602
  let c384_213 : Index := 384#32
  ![v675.toNat, 384]
@[reducible] def k0_t3_loop (i : grid0.Coords) : Scf.Loop 32 :=
  let c0_i32_44 : BitVec 32 := 0#32
  let arg2 : BitVec 32 := BitVec.ofNat 32 (i 2).val
  let c0_i32_36 : BitVec 32 := 0#32
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_46 : BitVec 32 := 1#32
  ⟨c0_i32_44, v106, c1_i32_46⟩
def k0_mult3 (i : grid0.Coords) (k0_t3 : Fin (k0_t3_loop i).trips) : BitVec 32 :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let c1_i32_46 : BitVec 32 := 1#32
  let arg9 : BitVec 32 := Scf.iv c0_i32_44 c1_i32_46 k0_t3
  let c512_i32_194 : BitVec 32 := 512#32
  let v600 : BitVec 32 := Scalar.muli arg9 c512_i32_194
  let v601 : BitVec 32 := Scalar.addi v101 v600
  v601
def k0_off9 (i : grid0.Coords) (k0_t3 : Fin (k0_t3_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let c1_i32_46 : BitVec 32 := 1#32
  let arg9 : BitVec 32 := Scf.iv c0_i32_44 c1_i32_46 k0_t3
  let c512_i32_194 : BitVec 32 := 512#32
  let v600 : BitVec 32 := Scalar.muli arg9 c512_i32_194
  let v601 : BitVec 32 := Scalar.addi v101 v600
  let v602 : BitVec 32 := v601
  let v603 : Index := Scalar.indexCast v602
  let c0_195 : Index := 0#32
  ![v603.toNat, 0]
def k0_off10 (i : grid0.Coords) (k0_t3 : Fin (k0_t3_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let c1_i32_46 : BitVec 32 := 1#32
  let arg9 : BitVec 32 := Scf.iv c0_i32_44 c1_i32_46 k0_t3
  let c512_i32_194 : BitVec 32 := 512#32
  let v600 : BitVec 32 := Scalar.muli arg9 c512_i32_194
  let v601 : BitVec 32 := Scalar.addi v101 v600
  let v602 : BitVec 32 := v601
  let v627 : Index := Scalar.indexCast v602
  let c128_201 : Index := 128#32
  ![v627.toNat, 128]
def k0_off11 (i : grid0.Coords) (k0_t3 : Fin (k0_t3_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let c1_i32_46 : BitVec 32 := 1#32
  let arg9 : BitVec 32 := Scf.iv c0_i32_44 c1_i32_46 k0_t3
  let c512_i32_194 : BitVec 32 := 512#32
  let v600 : BitVec 32 := Scalar.muli arg9 c512_i32_194
  let v601 : BitVec 32 := Scalar.addi v101 v600
  let v602 : BitVec 32 := v601
  let v651 : Index := Scalar.indexCast v602
  let c256_207 : Index := 256#32
  ![v651.toNat, 256]
def k0_off12 (i : grid0.Coords) (k0_t3 : Fin (k0_t3_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let c1_i32_46 : BitVec 32 := 1#32
  let arg9 : BitVec 32 := Scf.iv c0_i32_44 c1_i32_46 k0_t3
  let c512_i32_194 : BitVec 32 := 512#32
  let v600 : BitVec 32 := Scalar.muli arg9 c512_i32_194
  let v601 : BitVec 32 := Scalar.addi v101 v600
  let v602 : BitVec 32 := v601
  let v675 : Index := Scalar.indexCast v602
  let c384_213 : Index := 384#32
  ![v675.toNat, 384]
@[reducible] def k0_t4_loop (i : grid0.Coords) : Scf.Loop 32 :=
  let c0_i32_44 : BitVec 32 := 0#32
  let arg2 : BitVec 32 := BitVec.ofNat 32 (i 2).val
  let c0_i32_36 : BitVec 32 := 0#32
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let v103 : BitVec 32 := Scalar.addi c0_i32_44 v102
  let c1_i32_47 : BitVec 32 := 1#32
  ⟨v106, v103, c1_i32_47⟩
def k0_mult4 (i : grid0.Coords) (k0_t4 : Fin (k0_t4_loop i).trips) : BitVec 32 :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg9 : BitVec 32 := Scf.iv v106 c1_i32_47 k0_t4
  let c512_i32_194 : BitVec 32 := 512#32
  let v600 : BitVec 32 := Scalar.muli arg9 c512_i32_194
  let v601 : BitVec 32 := Scalar.addi v101 v600
  v601
def k0_off13 (i : grid0.Coords) (k0_t4 : Fin (k0_t4_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg9 : BitVec 32 := Scf.iv v106 c1_i32_47 k0_t4
  let c512_i32_194 : BitVec 32 := 512#32
  let v600 : BitVec 32 := Scalar.muli arg9 c512_i32_194
  let v601 : BitVec 32 := Scalar.addi v101 v600
  let v602 : BitVec 32 := v601
  let v603 : Index := Scalar.indexCast v602
  let c0_195 : Index := 0#32
  ![v603.toNat, 0]
def k0_off14 (i : grid0.Coords) (k0_t4 : Fin (k0_t4_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg9 : BitVec 32 := Scf.iv v106 c1_i32_47 k0_t4
  let c512_i32_194 : BitVec 32 := 512#32
  let v600 : BitVec 32 := Scalar.muli arg9 c512_i32_194
  let v601 : BitVec 32 := Scalar.addi v101 v600
  let v602 : BitVec 32 := v601
  let v627 : Index := Scalar.indexCast v602
  let c128_201 : Index := 128#32
  ![v627.toNat, 128]
def k0_off15 (i : grid0.Coords) (k0_t4 : Fin (k0_t4_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg9 : BitVec 32 := Scf.iv v106 c1_i32_47 k0_t4
  let c512_i32_194 : BitVec 32 := 512#32
  let v600 : BitVec 32 := Scalar.muli arg9 c512_i32_194
  let v601 : BitVec 32 := Scalar.addi v101 v600
  let v602 : BitVec 32 := v601
  let v651 : Index := Scalar.indexCast v602
  let c256_207 : Index := 256#32
  ![v651.toNat, 256]
def k0_off16 (i : grid0.Coords) (k0_t4 : Fin (k0_t4_loop i).trips) : Fin 2 → Nat :=
  let c0_i32_36 : BitVec 32 := 0#32
  let arg2 : BitVec 32 := BitVec.ofNat 32 (i 2).val
  let c0_i32 : BitVec 32 := 0#32
  let v56 : BitVec 32 := Scalar.subi arg2 c0_i32
  let c0_i32_26 : BitVec 32 := 0#32
  let v58 : BitVec 1 := Scalar.cmpi .sgt v56 c0_i32_26
  let v59 : BitVec 32 := Scalar.extui v58
  let c0_i32_27 : BitVec 32 := 0#32
  let v60 : BitVec 1 := Scalar.cmpi .slt v56 c0_i32_27
  let v61 : BitVec 32 := Scalar.extui v60
  let v62 : BitVec 32 := Scalar.subi v59 v61
  let c2_i32 : BitVec 32 := 2#32
  let c0_i32_28 : BitVec 32 := 0#32
  let v63 : BitVec 1 := Scalar.cmpi .sgt c2_i32 c0_i32_28
  let v64 : BitVec 32 := Scalar.extui v63
  let c0_i32_29 : BitVec 32 := 0#32
  let v65 : BitVec 1 := Scalar.cmpi .slt c2_i32 c0_i32_29
  let v66 : BitVec 32 := Scalar.extui v65
  let v67 : BitVec 32 := Scalar.subi v64 v66
  let v68 : BitVec 1 := Scalar.cmpi .ne v62 v67
  let v69 : BitVec 32 := Scalar.remsi v56 c2_i32
  let c0_i32_30 : BitVec 32 := 0#32
  let v70 : BitVec 1 := Scalar.cmpi .ne v69 c0_i32_30
  let v71 : BitVec 1 := Scalar.andi v68 v70
  let v57 : BitVec 32 := Scalar.divsi v56 c2_i32
  let c1_i32 : BitVec 32 := 1#32
  let v72 : BitVec 32 := Scalar.subi v57 c1_i32
  let v73 : BitVec 32 := Scalar.select v71 v72 v57
  let c2_i32_35 : BitVec 32 := 2#32
  let v81 : BitVec 32 := Scalar.muli v73 c2_i32_35
  let v82 : BitVec 32 := Scalar.addi c0_i32_36 v81
  let c512_i32 : BitVec 32 := 512#32
  let v101 : BitVec 32 := Scalar.muli v82 c512_i32
  let c0_i32_44 : BitVec 32 := 0#32
  let v83 : BitVec 32 := Scalar.subi arg2 v82
  let c0_i32_38 : BitVec 32 := 0#32
  let v85 : BitVec 1 := Scalar.cmpi .sgt v83 c0_i32_38
  let v86 : BitVec 32 := Scalar.extui v85
  let c0_i32_39 : BitVec 32 := 0#32
  let v87 : BitVec 1 := Scalar.cmpi .slt v83 c0_i32_39
  let v88 : BitVec 32 := Scalar.extui v87
  let v89 : BitVec 32 := Scalar.subi v86 v88
  let c1_i32_37 : BitVec 32 := 1#32
  let c0_i32_40 : BitVec 32 := 0#32
  let v90 : BitVec 1 := Scalar.cmpi .sgt c1_i32_37 c0_i32_40
  let v91 : BitVec 32 := Scalar.extui v90
  let c0_i32_41 : BitVec 32 := 0#32
  let v92 : BitVec 1 := Scalar.cmpi .slt c1_i32_37 c0_i32_41
  let v93 : BitVec 32 := Scalar.extui v92
  let v94 : BitVec 32 := Scalar.subi v91 v93
  let v95 : BitVec 1 := Scalar.cmpi .ne v89 v94
  let v96 : BitVec 32 := Scalar.remsi v83 c1_i32_37
  let c0_i32_42 : BitVec 32 := 0#32
  let v97 : BitVec 1 := Scalar.cmpi .ne v96 c0_i32_42
  let v98 : BitVec 1 := Scalar.andi v95 v97
  let v84 : BitVec 32 := Scalar.divsi v83 c1_i32_37
  let c1_i32_43 : BitVec 32 := 1#32
  let v99 : BitVec 32 := Scalar.subi v84 c1_i32_43
  let v100 : BitVec 32 := Scalar.select v98 v99 v84
  let v102 : BitVec 32 := Scalar.subi v100 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg9 : BitVec 32 := Scf.iv v106 c1_i32_47 k0_t4
  let c512_i32_194 : BitVec 32 := 512#32
  let v600 : BitVec 32 := Scalar.muli arg9 c512_i32_194
  let v601 : BitVec 32 := Scalar.addi v101 v600
  let v602 : BitVec 32 := v601
  let v675 : Index := Scalar.indexCast v602
  let c384_213 : Index := 384#32
  ![v675.toNat, 384]
def k0_mult5 (i : grid0.Coords) : BitVec 32 :=
  let arg2 : BitVec 32 := BitVec.ofNat 32 (i 2).val
  let c512_i32_48 : BitVec 32 := 512#32
  let v109 : BitVec 32 := Scalar.muli arg2 c512_i32_48
  v109
def k0_off17 (i : grid0.Coords) : Fin 2 → Nat :=
  let arg2 : BitVec 32 := BitVec.ofNat 32 (i 2).val
  let c512_i32_48 : BitVec 32 := 512#32
  let v109 : BitVec 32 := Scalar.muli arg2 c512_i32_48
  let v110 : BitVec 32 := v109
  let v111 : Index := Scalar.indexCast v110
  let c0_49 : Index := 0#32
  ![v111.toNat, 0]
def k0_off18 (i : grid0.Coords) : Fin 2 → Nat :=
  let arg2 : BitVec 32 := BitVec.ofNat 32 (i 2).val
  let c512_i32_48 : BitVec 32 := 512#32
  let v109 : BitVec 32 := Scalar.muli arg2 c512_i32_48
  let v110 : BitVec 32 := v109
  let v204 : Index := Scalar.indexCast v110
  let c128_76 : Index := 128#32
  ![v204.toNat, 128]
def k0_off19 (i : grid0.Coords) : Fin 2 → Nat :=
  let arg2 : BitVec 32 := BitVec.ofNat 32 (i 2).val
  let c512_i32_48 : BitVec 32 := 512#32
  let v109 : BitVec 32 := Scalar.muli arg2 c512_i32_48
  let v110 : BitVec 32 := v109
  let v297 : Index := Scalar.indexCast v110
  let c256_103 : Index := 256#32
  ![v297.toNat, 256]
def k0_off20 (i : grid0.Coords) : Fin 2 → Nat :=
  let arg2 : BitVec 32 := BitVec.ofNat 32 (i 2).val
  let c512_i32_48 : BitVec 32 := 512#32
  let v109 : BitVec 32 := Scalar.muli arg2 c512_i32_48
  let v110 : BitVec 32 := v109
  let v390 : Index := Scalar.indexCast v110
  let c384_130 : Index := 384#32
  ![v390.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x512 : Shape := ⟨2, ![16384, 512]⟩
abbrev S64 : Shape := ⟨1, ![64]⟩
abbrev S128 : Shape := ⟨1, ![128]⟩
abbrev S2x8192x4x2x64 : Shape := ⟨5, ![2, 8192, 4, 2, 64]⟩
abbrev S2x4x2x8192x64 : Shape := ⟨5, ![2, 4, 2, 8192, 64]⟩
abbrev S2x8192x4x128 : Shape := ⟨4, ![2, 8192, 4, 128]⟩
abbrev S2x4x8192x128 : Shape := ⟨4, ![2, 4, 8192, 128]⟩
abbrev S_ : Shape := ⟨0, ![]⟩
abbrev S8192 : Shape := ⟨1, ![8192]⟩
abbrev S2x4x2x8192x8192 : Shape := ⟨5, ![2, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x8192x4x2x64, .f32⟩
  | .hbm, ⟨9, _⟩ => ⟨S2x4x2x8192x64, .f32⟩
  | .hbm, ⟨10, _⟩ => ⟨S2x8192x4x2x64, .f32⟩
  | .hbm, ⟨11, _⟩ => ⟨S2x4x2x8192x64, .f32⟩
  | .hbm, ⟨12, _⟩ => ⟨S2x8192x4x128, .f32⟩
  | .hbm, ⟨13, _⟩ => ⟨S2x4x8192x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .i32⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S2x4x2x8192x8192, .f32⟩
  | .hbm, ⟨45, _⟩ => ⟨S_, .f32⟩
  | .hbm, ⟨46, _⟩ => ⟨S2x4x2x8192x8192, .f32⟩
  | .hbm, ⟨47, _⟩ => ⟨S2x4x2x8192x8192, .f32⟩
  | .hbm, ⟨48, _⟩ => ⟨S1x8192, .i32⟩
  | .hbm, ⟨49, _⟩ => ⟨S8192x1, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S_, .f32⟩
  | .hbm, ⟨54, _⟩ => ⟨S_, .f32⟩
  | .hbm, ⟨55, _⟩ => ⟨S2x4x2x8192x8192, .i1⟩
  | .hbm, ⟨56, _⟩ => ⟨S2x4x2x8192x8192, .f32⟩
  | .hbm, ⟨57, _⟩ => ⟨S2x4x2x8192x8192, .f32⟩
  | .hbm, ⟨58, _⟩ => ⟨S_, .f32⟩
  | .hbm, ⟨59, _⟩ => ⟨S2x4x2x8192, .f32⟩
  | .hbm, ⟨60, _⟩ => ⟨S_, .f32⟩
  | .hbm, ⟨61, _⟩ => ⟨S2x4x2x8192, .f32⟩
  | .hbm, ⟨62, _⟩ => ⟨S2x4x2x8192, .f32⟩
  | .hbm, ⟨63, _⟩ => ⟨S2x4x2x8192x1, .f32⟩
  | .hbm, ⟨64, _⟩ => ⟨S2x4x2x8192x8192, .f32⟩
  | .hbm, ⟨65, _⟩ => ⟨S2x4x2x8192x8192, .f32⟩
  | .hbm, ⟨66, _⟩ => ⟨S2x4x2x8192x8192, .f32⟩
  | .hbm, ⟨67, _⟩ => ⟨S_, .f32⟩
  | .hbm, ⟨68, _⟩ => ⟨S2x4x2x8192, .f32⟩
  | .hbm, ⟨69, _⟩ => ⟨S2x4x2x8192x1, .f32⟩
  | .hbm, ⟨70, _⟩ => ⟨S2x4x2x8192x8192, .f32⟩
  | .hbm, ⟨71, _⟩ => ⟨S2x4x2x8192x8192, .f32⟩
  | .hbm, ⟨72, _⟩ => ⟨S2x4x1x8192x8192, .f32⟩
  | .hbm, ⟨73, _⟩ => ⟨S2x4x8192x8192, .f32⟩
  | .hbm, ⟨74, _⟩ => ⟨S2x4x1x8192x8192, .f32⟩
  | .hbm, ⟨75, _⟩ => ⟨S2x4x8192x8192, .f32⟩
  | .hbm, ⟨76, _⟩ => ⟨S2x4x8192x8192, .f32⟩
  | .hbm, ⟨77, _⟩ => ⟨S2x4x8192x8192, .f32⟩
  | .hbm, ⟨78, _⟩ => ⟨S2x4x8192x8192, .f32⟩
  | .hbm, ⟨79, _⟩ => ⟨S2x4x8192x128, .f32⟩
  | .hbm, ⟨80, _⟩ => ⟨S2x4x8192x128, .f32⟩
  | .hbm, ⟨81, _⟩ => ⟨S_, .f32⟩
  | .hbm, ⟨82, _⟩ => ⟨S2x4x8192, .f32⟩
  | .hbm, ⟨83, _⟩ => ⟨S2x4x8192x1, .f32⟩
  | .hbm, ⟨84, _⟩ => ⟨S_, .f32⟩
  | .hbm, ⟨85, _⟩ => ⟨S2x4x8192x1, .f32⟩
  | .hbm, ⟨86, _⟩ => ⟨S2x4x8192x1, .f32⟩
  | .hbm, ⟨87, _⟩ => ⟨S_, .f32⟩
  | .hbm, ⟨88, _⟩ => ⟨S2x4x8192x1, .f32⟩
  | .hbm, ⟨89, _⟩ => ⟨S2x4x8192x1, .f32⟩
  | .hbm, ⟨90, _⟩ => ⟨S2x4x8192x1, .f32⟩
  | .hbm, ⟨91, _⟩ => ⟨S2x4x8192x128, .f32⟩
  | .hbm, ⟨92, _⟩ => ⟨S2x4x8192x128, .f32⟩
  | .hbm, ⟨93, _⟩ => ⟨S1x1x1x128, .f32⟩
  | .hbm, ⟨94, _⟩ => ⟨S2x4x8192x128, .f32⟩
  | .hbm, ⟨95, _⟩ => ⟨S2x4x8192x128, .f32⟩
  | .hbm, ⟨96, _⟩ => ⟨S_, .f32⟩
  | .hbm, ⟨97, _⟩ => ⟨S2x4x8192x128, .f32⟩
  | .hbm, ⟨98, _⟩ => ⟨S2x4x8192x128, .f32⟩
  | .hbm, ⟨99, _⟩ => ⟨S2x8192x4x128, .f32⟩
  | .hbm, ⟨100, _⟩ => ⟨S16384x512, .f32⟩
  | .hbm, ⟨101, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_cst_9 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x7680 : Shape := ⟨2, ![1024, 7680]⟩
abbrev S64 : Shape := ⟨1, ![64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x56 : Shape := ⟨2, ![8192, 56]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x512 : Shape := ⟨2, ![8, 512]⟩
abbrev S1x64 : Shape := ⟨2, ![1, 64]⟩
abbrev S8x64 : Shape := ⟨2, ![8, 64]⟩
abbrev S512 : Shape := ⟨1, ![512]⟩
abbrev S1 : Shape := ⟨1, ![1]⟩
abbrev S1x1024 : Shape := ⟨2, ![1, 1024]⟩
abbrev S16384x512 : Shape := ⟨2, ![16384, 512]⟩
abbrev S16384x3072 : Shape := ⟨2, ![16384, 3072]⟩
abbrev S256x1024 : Shape := ⟨2, ![256, 1024]⟩
abbrev S256x128 : Shape := ⟨2, ![256, 128]⟩
abbrev S256x512 : Shape := ⟨2, ![256, 512]⟩
abbrev S256x3072 : Shape := ⟨2, ![256, 3072]⟩
abbrev S1024x512 : Shape := ⟨2, ![1024, 512]⟩
abbrev S1x512 : Shape := ⟨2, ![1, 512]⟩

abbrev nBuf : Space → Nat
  | .hbm => 114
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7680, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8192, .f32⟩
  | .hbm, ⟨24, _⟩ => ⟨S8192x1, .f32⟩
  | .hbm, ⟨25, _⟩ => ⟨S1x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192x48, .f32⟩
  | .hbm, ⟨33, _⟩ => ⟨S_, .f32⟩
  | .hbm, ⟨34, _⟩ => ⟨S8192x56, .f32⟩
  | .hbm, ⟨35, _⟩ => ⟨S8192x64, .f32⟩
  | .hbm, ⟨36, _⟩ => ⟨S8192x8, .f32⟩
  | .hbm, ⟨37, _⟩ => ⟨S8192x64, .f32⟩
  | .hbm, ⟨38, _⟩ => ⟨S_, .f32⟩
  | .hbm, ⟨39, _⟩ => ⟨S8192x8, .f32⟩
  | .hbm, ⟨40, _⟩ => ⟨S8192x48, .f32⟩
  | .hbm, ⟨41, _⟩ => ⟨S8192x64, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S1x8192x1x64, .f32⟩
  | .hbm, ⟨46, _⟩ => ⟨S1x8192x2x64, .f32⟩
  | .hbm, ⟨47, _⟩ => ⟨S8192x128, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S256, .i32⟩
  | .hbm, ⟨52, _⟩ => ⟨S_, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S256x1, .i32⟩
  | .hbm, ⟨71, _⟩ => ⟨S1x256, .i32⟩
  | .hbm, ⟨72, _⟩ => ⟨S256x256, .i32⟩
  | .hbm, ⟨73, _⟩ => ⟨S256x256, .i32⟩
  | .hbm, ⟨74, _⟩ => ⟨S256x256, .i1⟩
  | .hbm, ⟨75, _⟩ => ⟨S256x256, .bf16⟩
  | .hbm, ⟨76, _⟩ => ⟨S_, .f32⟩
  | .hbm, ⟨77, _⟩ => ⟨S8x512, .f32⟩
  | .hbm, ⟨78, _⟩ => ⟨S1x64, .f32⟩
  | .hbm, ⟨79, _⟩ => ⟨S8x64, .f32⟩
  | .hbm, ⟨80, _⟩ => ⟨S512, .f32⟩
  | .hbm, ⟨81, _⟩ => ⟨S_, .i32⟩
  | .hbm, ⟨82, _⟩ => ⟨S1, .i32⟩
  | .hbm, ⟨83, _⟩ => ⟨S8x512, .f32⟩
  | .hbm, ⟨84, _⟩ => ⟨S1x64, .f32⟩
  | .hbm, ⟨85, _⟩ => ⟨S8x64, .f32⟩
  | .hbm, ⟨86, _⟩ => ⟨S512, .f32⟩
  | .hbm, ⟨87, _⟩ => ⟨S_, .i32⟩
  | .hbm, ⟨88, _⟩ => ⟨S1, .i32⟩
  | .hbm, ⟨89, _⟩ => ⟨S8x512, .f32⟩
  | .hbm, ⟨90, _⟩ => ⟨S1x64, .f32⟩
  | .hbm, ⟨91, _⟩ => ⟨S8x64, .f32⟩
  | .hbm, ⟨92, _⟩ => ⟨S512, .f32⟩
  | .hbm, ⟨93, _⟩ => ⟨S_, .i32⟩
  | .hbm, ⟨94, _⟩ => ⟨S1, .i32⟩
  | .hbm, ⟨95, _⟩ => ⟨S8x512, .f32⟩
  | .hbm, ⟨96, _⟩ => ⟨S1x64, .f32⟩
  | .hbm, ⟨97, _⟩ => ⟨S8x64, .f32⟩
  | .hbm, ⟨98, _⟩ => ⟨S512, .f32⟩
  | .hbm, ⟨99, _⟩ => ⟨S_, .i32⟩
  | .hbm, ⟨100, _⟩ => ⟨S1, .i32⟩
  | .hbm, ⟨101, _⟩ => ⟨S8x512, .f32⟩
  | .hbm, ⟨102, _⟩ => ⟨S1x1024, .f32⟩
  | .hbm, ⟨103, _⟩ => ⟨S1024x7680, .bf16⟩
  | .hbm, ⟨104, _⟩ => ⟨S16384x512, .bf16⟩
  | .hbm, ⟨105, _⟩ => ⟨S16384x512, .bf16⟩
  | .hbm, ⟨106, _⟩ => ⟨S16384x512, .bf16⟩
  | .hbm, ⟨107, _⟩ => ⟨S16384x512, .bf16⟩
  | .hbm, ⟨108, _⟩ => ⟨S16384x512, .bf16⟩
  | .hbm, ⟨109, _⟩ => ⟨S16384x512, .bf16⟩
  | .hbm, ⟨110, _⟩ => ⟨S16384x512, .bf16⟩
  | .hbm, ⟨111, _⟩ => ⟨S16384x512, .bf16⟩
  | .hbm, ⟨112, _⟩ => ⟨S16384x512, .bf16⟩
  | .hbm, ⟨113, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7680, .bf16⟩
  | .local _ .vmem, ⟨4, _⟩ => ⟨S8x512, .f32⟩
  | .local _ .vmem, ⟨5, _⟩ => ⟨S256x256, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x3072, .bf16⟩
  | .local _ .vmem, ⟨31, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_v67_6 : Ref sig .tc := ⟨.hbm, 110, rfl⟩
abbrev main_v67_7 : Ref sig .tc := ⟨.hbm, 111, rfl⟩
abbrev main_v67_8 : Ref sig .tc := ⟨.hbm, 112, rfl⟩
abbrev main_v67_9 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16384x1024 : Shape := ⟨2, ![16384, 1024]⟩
abbrev S1024 : Shape := ⟨1, ![1024]⟩
abbrev S1024x7680 : Shape := ⟨2, ![1024, 7680]⟩
abbrev S64 : Shape := ⟨1, ![64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S16384 : Shape := ⟨1, ![16384]⟩
abbrev S16384x1 : Shape := ⟨2, ![16384, 1]⟩
abbrev S1x1024 : Shape := ⟨2, ![1, 1024]⟩
abbrev S16384x7680 : Shape := ⟨2, ![16384, 7680]⟩
abbrev S16384x512 : Shape := ⟨2, ![16384, 512]⟩
abbrev S2x8192x8x64 : Shape := ⟨4, ![2, 8192, 8, 64]⟩
abbrev S2x8x8192x64 : Shape := ⟨4, ![2, 8, 8192, 64]⟩
abbrev S2x8x8192 : Shape := ⟨3, ![2, 8, 8192]⟩
abbrev S2x8x8192x1 : Shape := ⟨4, ![2, 8, 8192, 1]⟩
abbrev S1x1x1x64 : Shape := ⟨4, ![1, 1, 1, 64]⟩
abbrev S2x8x8192x8 : Shape := ⟨4, ![2, 8, 8192, 8]⟩
abbrev S2x8x8192x48 : Shape := ⟨4, ![2, 8, 8192, 48]⟩
abbrev S1x1x8192x8 : Shape := ⟨4, ![1, 1, 8192, 8]⟩
abbrev S16384x3072 : Shape := ⟨2, ![16384, 3072]⟩

abbrev nBuf : Space → Nat
  | .hbm => 201
  | .vmem => 0
  | .smem => 0
  | _ => 0

abbrev hbmTy0_0 (i : Nat) : BufTy := match i % 128 with
  | 0 => ⟨S16384x1024, .f32⟩
  | 1 => ⟨S1024, .f32⟩
  | 2 => ⟨S1024x7680, .f32⟩
  | 3 => ⟨S64, .f32⟩
  | 4 => ⟨S64, .f32⟩
  | 5 => ⟨S64, .f32⟩
  | 6 => ⟨S64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8192, .f32⟩
  | 24 => ⟨S8192x1, .f32⟩
  | 25 => ⟨S1x8, .f32⟩
  | 26 => ⟨S8192x8, .f32⟩
  | 27 => ⟨S8192x8, .f32⟩
  | 28 => ⟨S8192x8, .f32⟩
  | 29 => ⟨S8192x8, .f32⟩
  | 30 => ⟨S8192x8, .f32⟩
  | 31 => ⟨S16384x1024, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S16384x7680, .f32⟩
  | 48 => ⟨S16384x512, .f32⟩
  | 49 => ⟨S2x8192x8x64, .f32⟩
  | 50 => ⟨S2x8x8192x64, .f32⟩
  | 51 => ⟨S2x8x8192x64, .f32⟩
  | 52 => ⟨S_, .f32⟩
  | 53 => ⟨S2x8x8192, .f32⟩
  | 54 => ⟨S2x8x8192x1, .f32⟩
  | 55 => ⟨S_, .f32⟩
  | 56 => ⟨S2x8x8192x1, .f32⟩
  | 57 => ⟨S2x8x8192x1, .f32⟩
  | 58 => ⟨S_, .f32⟩
  | 59 => ⟨S2x8x8192x1, .f32⟩
  | 60 => ⟨S2x8x8192x1, .f32⟩
  | 61 => ⟨S2x8x8192x1, .f32⟩
  | 62 => ⟨S2x8x8192x64, .f32⟩
  | 63 => ⟨S2x8x8192x64, .f32⟩
  | 64 => ⟨S1x1x1x64, .f32⟩
  | 65 => ⟨S2x8x8192x64, .f32⟩
  | 66 => ⟨S2x8x8192x64, .f32⟩
  | 67 => ⟨S2x8x8192x8, .f32⟩
  | 68 => ⟨S2x8x8192x8, .f32⟩
  | 69 => ⟨S2x8x8192x48, .f32⟩
  | 70 => ⟨S1x1x8192x8, .f32⟩
  | 71 => ⟨S2x8x8192x8, .f32⟩
  | 72 => ⟨S2x8x8192x8, .f32⟩
  | 73 => ⟨S1x1x8192x8, .f32⟩
  | 74 => ⟨S2x8x8192x8, .f32⟩
  | 75 => ⟨S2x8x8192x8, .f32⟩
  | 76 => ⟨S2x8x8192x8, .f32⟩
  | 77 => ⟨S1x1x8192x8, .f32⟩
  | 78 => ⟨S2x8x8192x8, .f32⟩
  | 79 => ⟨S2x8x8192x8, .f32⟩
  | 80 => ⟨S1x1x8192x8, .f32⟩
  | 81 => ⟨S2x8x8192x8, .f32⟩
  | 82 => ⟨S2x8x8192x8, .f32⟩
  | 83 => ⟨S2x8x8192x8, .f32⟩
  | 84 => ⟨S2x8x8192x64, .f32⟩
  | 85 => ⟨S2x8192x8x64, .f32⟩
  | 86 => ⟨S16384x512, .f32⟩
  | 87 => ⟨S16384x512, .f32⟩
  | 88 => ⟨S2x8192x8x64, .f32⟩
  | 89 => ⟨S2x8x8192x64, .f32⟩
  | 90 => ⟨S2x8x8192x64, .f32⟩
  | 91 => ⟨S_, .f32⟩
  | 92 => ⟨S2x8x8192, .f32⟩
  | 93 => ⟨S2x8x8192x1, .f32⟩
  | 94 => ⟨S_, .f32⟩
  | 95 => ⟨S2x8x8192x1, .f32⟩
  | 96 => ⟨S2x8x8192x1, .f32⟩
  | 97 => ⟨S_, .f32⟩
  | 98 => ⟨S2x8x8192x1, .f32⟩
  | 99 => ⟨S2x8x8192x1, .f32⟩
  | 100 => ⟨S2x8x8192x1, .f32⟩
  | 101 => ⟨S2x8x8192x64, .f32⟩
  | 102 => ⟨S2x8x8192x64, .f32⟩
  | 103 => ⟨S1x1x1x64, .f32⟩
  | 104 => ⟨S2x8x8192x64, .f32⟩
  | 105 => ⟨S2x8x8192x64, .f32⟩
  | 106 => ⟨S2x8x8192x8, .f32⟩
  | 107 => ⟨S2x8x8192x8, .f32⟩
  | 108 => ⟨S2x8x8192x48, .f32⟩
  | 109 => ⟨S1x1x8192x8, .f32⟩
  | 110 => ⟨S2x8x8192x8, .f32⟩
  | 111 => ⟨S2x8x8192x8, .f32⟩
  | 112 => ⟨S1x1x8192x8, .f32⟩
  | 113 => ⟨S2x8x8192x8, .f32⟩
  | 114 => ⟨S2x8x8192x8, .f32⟩
  | 115 => ⟨S2x8x8192x8, .f32⟩
  | 116 => ⟨S1x1x8192x8, .f32⟩
  | 117 => ⟨S2x8x8192x8, .f32⟩
  | 118 => ⟨S2x8x8192x8, .f32⟩
  | 119 => ⟨S1x1x8192x8, .f32⟩
  | 120 => ⟨S2x8x8192x8, .f32⟩
  | 121 => ⟨S2x8x8192x8, .f32⟩
  | 122 => ⟨S2x8x8192x8, .f32⟩
  | 123 => ⟨S2x8x8192x64, .f32⟩
  | 124 => ⟨S2x8192x8x64, .f32⟩
  | 125 => ⟨S16384x512, .f32⟩
  | 126 => ⟨S16384x512, .f32⟩
  | 127 => ⟨S2x8192x8x64, .f32⟩
  | _ => ⟨S16384x1024, .f32⟩

abbrev hbmTy0_1 (i : Nat) : BufTy := match i % 128 with
  | 0 => ⟨S2x8x8192x64, .f32⟩
  | 1 => ⟨S2x8x8192x64, .f32⟩
  | 2 => ⟨S_, .f32⟩
  | 3 => ⟨S2x8x8192, .f32⟩
  | 4 => ⟨S2x8x8192x1, .f32⟩
  | 5 => ⟨S_, .f32⟩
  | 6 => ⟨S2x8x8192x1, .f32⟩
  | 7 => ⟨S2x8x8192x1, .f32⟩
  | 8 => ⟨S_, .f32⟩
  | 9 => ⟨S2x8x8192x1, .f32⟩
  | 10 => ⟨S2x8x8192x1, .f32⟩
  | 11 => ⟨S2x8x8192x1, .f32⟩
  | 12 => ⟨S2x8x8192x64, .f32⟩
  | 13 => ⟨S2x8x8192x64, .f32⟩
  | 14 => ⟨S1x1x1x64, .f32⟩
  | 15 => ⟨S2x8x8192x64, .f32⟩
  | 16 => ⟨S2x8x8192x64, .f32⟩
  | 17 => ⟨S2x8192x8x64, .f32⟩
  | 18 => ⟨S16384x512, .f32⟩
  | 19 => ⟨S16384x512, .f32⟩
  | 20 => ⟨S2x8192x8x64, .f32⟩
  | 21 => ⟨S2x8x8192x64, .f32⟩
  | 22 => ⟨S2x8x8192x64, .f32⟩
  | 23 => ⟨S_, .f32⟩
  | 24 => ⟨S2x8x8192, .f32⟩
  | 25 => ⟨S2x8x8192x1, .f32⟩
  | 26 => ⟨S_, .f32⟩
  | 27 => ⟨S2x8x8192x1, .f32⟩
  | 28 => ⟨S2x8x8192x1, .f32⟩
  | 29 => ⟨S_, .f32⟩
  | 30 => ⟨S2x8x8192x1, .f32⟩
  | 31 => ⟨S2x8x8192x1, .f32⟩
  | 32 => ⟨S2x8x8192x1, .f32⟩
  | 33 => ⟨S2x8x8192x64, .f32⟩
  | 34 => ⟨S2x8x8192x64, .f32⟩
  | 35 => ⟨S1x1x1x64, .f32⟩
  | 36 => ⟨S2x8x8192x64, .f32⟩
  | 37 => ⟨S2x8x8192x64, .f32⟩
  | 38 => ⟨S2x8192x8x64, .f32⟩
  | 39 => ⟨S16384x512, .f32⟩
  | 40 => ⟨S16384x3072, .f32⟩
  | 41 => ⟨S16384x3072, .f32⟩
  | 42 => ⟨S16384x3072, .f32⟩
  | 43 => ⟨S_, .f32⟩
  | 44 => ⟨S16384x3072, .f32⟩
  | 45 => ⟨S16384x3072, .f32⟩
  | 46 => ⟨S_, .f32⟩
  | 47 => ⟨S16384x3072, .f32⟩
  | 48 => ⟨S16384x3072, .f32⟩
  | 49 => ⟨S_, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S16384x512, .f32⟩
  | 63 => ⟨S16384x512, .bf16⟩
  | 64 => ⟨S16384x512, .bf16⟩
  | 65 => ⟨S16384x512, .bf16⟩
  | 66 => ⟨S16384x512, .bf16⟩
  | 67 => ⟨S16384x512, .bf16⟩
  | 68 => ⟨S16384x512, .bf16⟩
  | 69 => ⟨S16384x512, .bf16⟩
  | 70 => ⟨S16384x512, .bf16⟩
  | 71 => ⟨S16384x512, .bf16⟩
  | 72 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_v110 : Ref sig .tc := ⟨.hbm, 132, rfl⟩
abbrev main_cst_14 : Ref sig .tc := ⟨.hbm, 133, rfl⟩
abbrev main_v111 : Ref sig .tc := ⟨.hbm, 134, rfl⟩
abbrev main_v112 : Ref sig .tc := ⟨.hbm, 135, rfl⟩
abbrev main_cst_15 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_16 : Ref sig .tc := ⟨.hbm, 151, rfl⟩
abbrev main_v127 : Ref sig .tc := ⟨.hbm, 152, rfl⟩
abbrev main_v128 : Ref sig .tc := ⟨.hbm, 153, rfl⟩
abbrev main_cst_17 : Ref sig .tc := ⟨.hbm, 154, rfl⟩
abbrev main_v129 : Ref sig .tc := ⟨.hbm, 155, rfl⟩
abbrev main_v130 : Ref sig .tc := ⟨.hbm, 156, rfl⟩
abbrev main_cst_18 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_cst_19 : Ref sig .tc := ⟨.hbm, 171, rfl⟩
abbrev main_v144 : Ref sig .tc := ⟨.hbm, 172, rfl⟩
abbrev main_v145 : Ref sig .tc := ⟨.hbm, 173, rfl⟩
abbrev main_cst_20 : Ref sig .tc := ⟨.hbm, 174, rfl⟩
abbrev main_v146 : Ref sig .tc := ⟨.hbm, 175, rfl⟩
abbrev main_v147 : Ref sig .tc := ⟨.hbm, 176, rfl⟩
abbrev main_cst_21 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_22 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_23 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S1024 : Shape := ⟨1, ![1024]⟩
abbrev S1024x2048 : Shape := ⟨2, ![1024, 2048]⟩
abbrev S2x8x128x128 : Shape := ⟨4, ![2, 8, 128, 128]⟩
abbrev S8x2x128x128 : Shape := ⟨4, ![8, 2, 128, 128]⟩
abbrev S16x128x128 : Shape := ⟨3, ![16, 128, 128]⟩
abbrev S1x1024 : Shape := ⟨2, ![1, 1024]⟩
abbrev S16x128x16384 : Shape := ⟨3, ![16, 128, 16384]⟩
abbrev S256x1024 : Shape := ⟨2, ![256, 1024]⟩
abbrev S256x512 : Shape := ⟨2, ![256, 512]⟩
abbrev S256x3072 : Shape := ⟨2, ![256, 3072]⟩
abbrev S16x128x256 : Shape := ⟨3, ![16, 128, 256]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 24
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S2x8x128x128, .f32⟩
  | .hbm, ⟨10, _⟩ => ⟨S8x2x128x128, .f32⟩
  | .hbm, ⟨11, _⟩ => ⟨S16x128x128, .f32⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x3072, .bf16⟩
  | .hbm, ⟨16, _⟩ => ⟨S3x512x1024, .bf16⟩
  | .hbm, ⟨17, _⟩ => ⟨S1024x1024, .bf16⟩
  | .hbm, ⟨18, _⟩ => ⟨S1x1024, .f32⟩
  | .hbm, ⟨19, _⟩ => ⟨S1024x2048, .bf16⟩
  | .hbm, ⟨20, _⟩ => ⟨S16x128x128, .bf16⟩
  | .hbm, ⟨21, _⟩ => ⟨S16384x1024, .f32⟩
  | .hbm, ⟨22, _⟩ => ⟨S16384x1024, .bf16⟩
  | .hbm, ⟨23, _⟩ => ⟨S16x128x16384, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2048, .bf16⟩
  | .local _ .vmem, ⟨14, _⟩ => ⟨S16x128x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S16x128x256, .f32⟩
  | .local _ .vmem, ⟨20, _⟩ => ⟨S16x128x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S1024 : Shape := ⟨1, ![1024]⟩
abbrev S1024x2048 : Shape := ⟨2, ![1024, 2048]⟩
abbrev S2x8x128x128 : Shape := ⟨4, ![2, 8, 128, 128]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16x128x16384 : Shape := ⟨3, ![16, 128, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S2x8x128x128, .f32⟩
  | .hbm, ⟨10, _⟩ => ⟨S16384x1x512, .f32⟩
  | .hbm, ⟨11, _⟩ => ⟨S16384x1x512, .f32⟩
  | .hbm, ⟨12, _⟩ => ⟨S16384x1x512, .f32⟩
  | .hbm, ⟨13, _⟩ => ⟨S16384x3x512, .f32⟩
  | .hbm, ⟨14, _⟩ => ⟨S3x1024x16384, .f32⟩
  | .hbm, ⟨15, _⟩ => ⟨S16384x3x1024, .f32⟩
  | .hbm, ⟨16, _⟩ => ⟨S16384x3x1024, .f32⟩
  | .hbm, ⟨17, _⟩ => ⟨S16384x3x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x2048, .f32⟩
  | .hbm, ⟨39, _⟩ => ⟨S16384x8x2x128, .f32⟩
  | .hbm, ⟨40, _⟩ => ⟨S8x2x128x16384, .f32⟩
  | .hbm, ⟨41, _⟩ => ⟨S16384x8x2x128, .f32⟩
  | .hbm, ⟨42, _⟩ => ⟨S16384x1024, .bf16⟩
  | .hbm, ⟨43, _⟩ => ⟨S8x2x128x16384, .f32⟩
  | .hbm, ⟨44, _⟩ => ⟨S16x128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Softmax.lean ====
/-
  Softmax sums over the extended reals, for rows of real scores some of which are masked to −∞: the running
  triple (maximum, normaliser, weighted sum) that a blockwise pass keeps, the step that takes in one block of
  keys, its quotient after the last block, and the same weights as a plain softmax computes them. Names no program.
-/
module

public import Idealize.ShloMosaic.PureOps.Ideal.Laws
public import Mathlib.Analysis.SpecialFunctions.Pow.Real

@[expose] public section

namespace Cert.Softmax

open Idealize.ShloMosaic Finset

/-- A finite sum of reals, read as extended reals. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [sum_insert ha, sum_insert ha, EReal.coe_add, ih]

/-- A base-two power of a real. -/
theorem exp2_coe (r : ℝ) : Ideal.exp2 (r : EReal) = ((2 : ℝ) ^ r : ℝ) := rfl

/-- An exponential of a real. -/
theorem exp_coe (r : ℝ) : Ideal.exp (r : EReal) = (Real.exp r : ℝ) := rfl

/-- A masked score, shifted by a real and raised: zero where masked. -/
theorem exp2_masked (p : Prop) [Decidable p] (s M : ℝ) :
    Ideal.exp2 ((if p then (s : EReal) else ⊥) - (M : EReal)) = ((if p then (2 : ℝ) ^ (s - M) else 0 : ℝ) : EReal) := by
  split
  · rw [← EReal.coe_sub, exp2_coe]
  · rw [EReal.bot_sub]; rfl

/-- The same for the natural exponential. -/
theorem exp_masked (p : Prop) [Decidable p] (s M : ℝ) :
    Ideal.exp ((if p then (s : EReal) else ⊥) - (M : EReal)) = ((if p then Real.exp (s - M) else 0 : ℝ) : EReal) := by
  split
  · rw [← EReal.coe_sub, exp_coe]
  · rw [EReal.bot_sub]; rfl

/-- The largest of finitely many masked real scores is a real as soon as one of them is not masked. -/
theorem fold_max_real {ι : Type*} (S : Finset ι) (x : ι → EReal) (htop : ∀ i ∈ S, x i ≠ ⊤)
    (hreal : ∃ i ∈ S, x i ≠ ⊥) : ∃ R : ℝ, S.fold max ⊥ x = (R : EReal) := by
  have h1 : S.fold max ⊥ x ≠ ⊤ := by
    refine ne_of_lt ?_
    rw [Finset.fold_max_lt]
    exact ⟨bot_lt_top, fun i hi => lt_top_iff_ne_top.mpr (htop i hi)⟩
  have h2 : S.fold max ⊥ x ≠ ⊥ := by
    obtain ⟨i, hi, hx⟩ := hreal
    refine ne_of_gt ?_
    rw [Finset.lt_fold_max]
    exact .inr ⟨i, hi, bot_lt_iff_ne_bot.mpr hx⟩
  exact ⟨_, (EReal.coe_toReal h1 h2).symm⟩

/-- What a blockwise pass holds of one row and one value column after the keys `K`: the running shift `m`, the sum
    `l` of the base-two weights `2 ^ (s k - m)` and the sum `a` of the weighted values; before any key, `-∞, 0, 0`. -/
def Seen (K : Finset ℕ) (s v : ℕ → ℝ) (m l a : EReal) : Prop :=
  (K = ∅ ∧ m = ⊥ ∧ l = 0 ∧ a = 0) ∨
    ∃ M : ℝ, m = M ∧ l = ((∑ k ∈ K, (2 : ℝ) ^ (s k - M) : ℝ) : EReal)
      ∧ a = ((∑ k ∈ K, (2 : ℝ) ^ (s k - M) * v k : ℝ) : EReal)

/-- Before any key. -/
theorem Seen.init (s v : ℕ → ℝ) : Seen ∅ s v ⊥ 0 0 := .inl ⟨rfl, rfl, rfl, rfl⟩

/-- One block of `n` keys, key `j` of it numbered `e j` and seen where `vis j`: rescaling the triple to the new shift
    and adding the block's weights leaves the triple of the keys seen so far and the block's visible keys together. -/
theorem Seen.step {K K' : Finset ℕ} {s v : ℕ → ℝ} {m l a : EReal} (h : Seen K s v m l a) {n : ℕ}
    (e : Fin n → ℕ) (vis : Fin n → Prop) [DecidablePred vis]
    (hK : ∀ f : ℕ → ℝ, ∑ k ∈ K', f k = ∑ k ∈ K, f k + ∑ j, if vis j then f (e j) else 0)
    (x y : Fin n → EReal) (hx : ∀ j, x j = if vis j then ((s (e j) : ℝ) : EReal) else ⊥)
    (hy : ∀ j, y j = ((v (e j) : ℝ) : EReal)) (hne : ∃ j, vis j) :
    Seen K' s v (max m (univ.fold max ⊥ x))
      (Ideal.exp2 (m - max m (univ.fold max ⊥ x)) * l + ∑ j, Ideal.exp2 (x j - max m (univ.fold max ⊥ x)))
      (Ideal.exp2 (m - max m (univ.fold max ⊥ x)) * a + ∑ j, Ideal.exp2 (x j - max m (univ.fold max ⊥ x)) * y j) := by
  obtain ⟨R, hR⟩ := fold_max_real univ x
    (fun i _ => by rw [hx]; split <;> simp)
    (by obtain ⟨j, hj⟩ := hne; exact ⟨j, mem_univ j, by rw [hx, if_pos hj]; simp⟩)
  rw [hR]
  have key : ∀ M : ℝ, (∑ j, Ideal.exp2 (x j - (M : EReal)))
        = ((∑ j, if vis j then (2 : ℝ) ^ (s (e j) - M) else 0 : ℝ) : EReal)
      ∧ (∑ j, Ideal.exp2 (x j - (M : EReal)) * y j)
        = ((∑ j, if vis j then (2 : ℝ) ^ (s (e j) - M) * v (e j) else 0 : ℝ) : EReal) := by
    intro M
    constructor
    · rw [coe_sum]; refine sum_congr rfl fun j _ => ?_
      rw [hx, exp2_masked]
    · rw [coe_sum]; refine sum_congr rfl fun j _ => ?_
      rw [hx, hy, exp2_masked, ← EReal.coe_mul]; congr 1; split <;> simp
  rcases h with ⟨rfl, rfl, rfl, rfl⟩ | ⟨M, rfl, rfl, rfl⟩
  · refine .inr ⟨R, by simp, ?_, ?_⟩
    · rw [max_eq_right bot_le, (key R).1, mul_zero, zero_add, hK]; simp
    · rw [max_eq_right bot_le, (key R).2, mul_zero, zero_add, hK]; simp
  · refine .inr ⟨max M R, (EReal.coe_strictMono.monotone.map_max).symm, ?_, ?_⟩
    · rw [← EReal.coe_strictMono.monotone.map_max, (key _).1, ← EReal.coe_sub, exp2_coe, ← EReal.coe_mul, ← EReal.coe_add, hK]
      congr 2
      rw [mul_sum]; refine sum_congr rfl fun k _ => ?_
      rw [← Real.rpow_add (by norm_num)]; congr 1; ring
    · rw [← EReal.coe_strictMono.monotone.map_max, (key _).2, ← EReal.coe_sub, exp2_coe, ← EReal.coe_mul, ← EReal.coe_add, hK]
      congr 2
      rw [mul_sum]; refine sum_congr rfl fun k _ => ?_
      rw [← mul_assoc, ← Real.rpow_add (by norm_num)]; congr 2; ring

/-- The weighted mean of `v` over `K` at the weights `w`. -/
noncomputable def mean (K : Finset ℕ) (w v : ℕ → ℝ) : ℝ := (∑ k ∈ K, w k * v k) / ∑ k ∈ K, w k

/-- A quotient of reals, off zero. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- The quotient after the last key: the mean of the values at the natural exponentials of `s k · log 2`. -/
theorem Seen.quot {K : Finset ℕ} {s v : ℕ → ℝ} {m l a : EReal} (h : Seen K s v m l a) (hK : K.Nonempty) :
    Ideal.div a l = (mean K (fun k => Real.exp (s k * Real.log 2)) v : EReal) := by
  rcases h with ⟨rfl, _⟩ | ⟨M, rfl, rfl, rfl⟩
  · exact absurd hK (by simp)
  have hpos : 0 < ∑ k ∈ K, (2 : ℝ) ^ (s k - M) := sum_pos (fun k _ => Real.rpow_pos_of_pos (by norm_num) _) hK
  rw [div_coe _ _ hpos.ne']
  congr 1
  unfold mean
  have e : ∀ k, (2 : ℝ) ^ (s k - M) = (2 : ℝ) ^ (-M) * Real.exp (s k * Real.log 2) := by
    intro k
    rw [sub_eq_add_neg, Real.rpow_add (by norm_num), mul_comm, Real.rpow_def_of_pos (by norm_num) (s k), mul_comm (Real.log 2)]
  have h2 : (2 : ℝ) ^ (-M) ≠ 0 := (Real.rpow_pos_of_pos (by norm_num) _).ne'
  simp only [e, mul_assoc]
  rw [← mul_sum, ← mul_sum, mul_div_mul_left _ _ h2]

/-- One weight of a plain softmax over `n` keys masked where not `vis`: the exponential over the sum of the visible
    ones, whatever real the scores were shifted by. -/
theorem softmax_coe {n : ℕ} (vis : Fin n → Prop) [DecidablePred vis] (t : Fin n → ℝ) (x : Fin n → EReal)
    (hx : ∀ j, x j = if vis j then ((t j : ℝ) : EReal) else ⊥) (hne : ∃ j, vis j) (M : ℝ) (k : Fin n) :
    Ideal.div (Ideal.exp (x k - (M : EReal))) (0 + ∑ j, Ideal.exp (x j - (M : EReal)))
      = (((if vis k then Real.exp (t k) else 0) / ∑ j, if vis j then Real.exp (t j) else 0 : ℝ) : EReal) := by
  have e : ∀ j, Ideal.exp (x j - (M : EReal)) = ((Real.exp (-M) * (if vis j then Real.exp (t j) else 0) : ℝ) : EReal) := by
    intro j
    rw [hx, exp_masked]; congr 1
    split
    · rw [← Real.exp_add]; congr 1; ring
    · simp
  have hpos : 0 < ∑ j, if vis j then Real.exp (t j) else 0 := by
    obtain ⟨j, hj⟩ := hne
    refine sum_pos' (fun i _ => by split <;> positivity) ⟨j, mem_univ j, ?_⟩
    rw [if_pos hj]; positivity
  simp only [e]
  rw [← coe_sum, zero_add, ← mul_sum, div_coe _ _ (mul_pos (Real.exp_pos _) hpos).ne',
    mul_div_mul_left _ _ (Real.exp_pos _).ne']

/-- Two softmaxes over the same visible keys, the second taken away `lam` times, against a column of values: the
    difference of the two means. -/
theorem diff_sum {n : ℕ} (vis : Fin n → Prop) [DecidablePred vis] (t₀ t₁ v : ℕ → ℝ) (lam : ℝ) :
    (∑ k : Fin n, ((((if vis k then Real.exp (t₀ k) else 0) / ∑ j : Fin n, if vis j then Real.exp (t₀ j) else 0 : ℝ) : EReal)
        - (lam : EReal) * (((if vis k then Real.exp (t₁ k) else 0) / ∑ j : Fin n, if vis j then Real.exp (t₁ j) else 0 : ℝ) : EReal))
        * ((v k : ℝ) : EReal))
      = ((mean ((univ.filter vis).map Fin.valEmbedding) (fun k => Real.exp (t₀ k)) v
          - lam * mean ((univ.filter vis).map Fin.valEmbedding) (fun k => Real.exp (t₁ k)) v : ℝ) : EReal) := by
  simp only [← EReal.coe_mul, ← EReal.coe_sub]
  rw [← coe_sum]
  congr 1
  unfold mean
  simp only [sum_map, Fin.valEmbedding_apply, sum_filter]
  simp only [sub_mul, sum_sub_distrib, mul_assoc, ← mul_sum, div_mul_eq_mul_div, ← sum_div, ite_mul, zero_mul]

end Cert.Softmax
-- ==== Proof.Steps.lean ====
/-
  One step of the attention's pass over the keys: what the carried maximum, normaliser and weighted sum of one head
  become when a block of keys is taken in, read at a row and a value column. A block is 1024 keys wide in the first
  loop, 512 wide in the second, and the last block of 512 keys is masked chunk by chunk.
-/
module

public import proofs.«01_k».proof.Proof.Softmax
public import proofs.«01_k».proof.Proof.Gen.KernelIdeal.Skeleton
public import Idealize.ShloMosaic.Lib.Pointwise

@[expose] public section

set_option maxRecDepth 16384

noncomputable section

namespace Cert.Block

open Cert.KernelIdeal Cert.KernelIdeal.Gen Idealize.ShloMosaic Cert.Softmax Finset

/-- What the three carried vectors of one head hold: on each stacked row `r` and each value column `d` the sums over
    the keys `K r` seen so far, at scores `s r` and values `v d`. -/
def HeadSeen (K : Fin 1024 → Finset ℕ) (s : Fin 1024 → ℕ → ℝ) (v : Fin 128 → ℕ → ℝ)
    (m l : FVec Ideal S1024x1 .f32) (a : FVec Ideal S1024x128 .f32) : Prop :=
  ∀ (r : Fin 1024) (d : Fin 128), Seen (K r) (s r) (v d) (m (ix2 r 0)) (l (ix2 r 0)) (a (ix2 r d))

/-- The scores of a 1024-key block: the inner products over the 128 lanes. -/
theorem score_wide (q : FVec Ideal S1024x128 .bf16) (k : FVec Ideal S1024x128 .bf16) (r c : Fin 1024) :
    k0_pay2 q k (ix2 r c) = ∑ j : Fin 128, (q (ix2 r j) : EReal) * k (ix2 c j) := by
  pointwise [k0_pay2]

/-- The word for −∞ denotes it. -/
theorem neg_inf : Ideal.ofBits .f32 0xFF800000#32 = ⊥ := by simp [Ideal.ofBits, Ideal.ieee]

/-- The running maximum after a 1024-key block. -/
theorem max_wide (q : FVec Ideal S1024x128 .bf16) (m : FVec Ideal S1024x1 .f32) (k : FVec Ideal S1024x128 .bf16) (r : Fin 1024) :
    k0_pay3 q m k (ix2 r 0) = max (m (ix2 r 0) : EReal) (univ.fold max ⊥ fun c : Fin 1024 => k0_pay2 q k (ix2 r c)) := by
  pointwise [k0_pay3]
  rw [neg_inf]

/-- The normaliser after a 1024-key block. -/
theorem norm_wide (q : FVec Ideal S1024x128 .bf16) (m l : FVec Ideal S1024x1 .f32) (k : FVec Ideal S1024x128 .bf16) (r : Fin 1024) :
    k0_pay6 q m l k (ix2 r 0) = Ideal.exp2 ((m (ix2 r 0) : EReal) - k0_pay3 q m k (ix2 r 0)) * l (ix2 r 0)
      + ∑ c : Fin 1024, Ideal.exp2 ((k0_pay2 q k (ix2 r c) : EReal) - k0_pay3 q m k (ix2 r 0)) := by
  pointwise [k0_pay6, k0_pay4, k0_pay5]
  rfl

/-- The weighted sum after a 1024-key block. -/
theorem acc_wide (q : FVec Ideal S1024x128 .bf16) (m : FVec Ideal S1024x1 .f32) (a : FVec Ideal S1024x128 .f32)
    (k v : FVec Ideal S1024x128 .bf16) (r : Fin 1024) (d : Fin 128) :
    k0_pay7 q m a k v (ix2 r d) = Ideal.exp2 ((m (ix2 r 0) : EReal) - k0_pay3 q m k (ix2 r 0)) * a (ix2 r d)
      + ∑ c : Fin 1024, Ideal.exp2 ((k0_pay2 q k (ix2 r c) : EReal) - k0_pay3 q m k (ix2 r 0)) * v (ix2 c d) := by
  pointwise [k0_pay7, k0_pay4, k0_pay5]
  rfl

/-- A sum over the first `n + w` numbers, cut at `n`. -/
theorem sum_range_add (n w : ℕ) (f : ℕ → ℝ) :
    ∑ k ∈ range (n + w), f k = ∑ k ∈ range n, f k + ∑ j : Fin w, if True then f (n + j) else 0 := by
  simp only [if_true]
  rw [Finset.sum_range_add, Fin.sum_univ_eq_sum_range (fun j => f (n + j)) w]

/-- A 1024-key block, every key of it seen. -/
theorem step_wide {n : ℕ} {s : Fin 1024 → ℕ → ℝ} {v : Fin 128 → ℕ → ℝ} {m l : FVec Ideal S1024x1 .f32}
    {a : FVec Ideal S1024x128 .f32} (q k w : FVec Ideal S1024x128 .bf16)
    (hs : ∀ (r c : Fin 1024), (∑ j : Fin 128, (q (ix2 r j) : EReal) * k (ix2 c j)) = (s r (n + c) : ℝ))
    (hv : ∀ (c : Fin 1024) (d : Fin 128), (w (ix2 c d) : EReal) = (v d (n + c) : ℝ))
    (h : HeadSeen (fun _ => range n) s v m l a) :
    HeadSeen (fun _ => range (n + 1024)) s v (k0_pay3 q m k) (k0_pay6 q m l k) (k0_pay7 q m a k w) := by
  intro r d
  rw [norm_wide, acc_wide, max_wide]
  exact (h r d).step (fun j : Fin 1024 => n + j.val) (fun _ => True) (sum_range_add n 1024)
    (fun c => k0_pay2 q k (ix2 r c)) (fun c => w (ix2 c d)) (fun c => by rw [if_pos trivial, score_wide, hs])
    (fun c => hv c d) ⟨0, trivial⟩

/-! ## A 512-key block -/

/-- The scores of a 512-key block. -/
theorem score_narrow (q : FVec Ideal S1024x128 .bf16) (k : FVec Ideal S512x128 .bf16) (r : Fin 1024) (c : Fin 512) :
    k0_pay52 q k (ix2 r c) = ∑ j : Fin 128, (q (ix2 r j) : EReal) * k (ix2 c j) := by
  pointwise [k0_pay52]

/-- The running maximum after a 512-key block. -/
theorem max_narrow (q : FVec Ideal S1024x128 .bf16) (m : FVec Ideal S1024x1 .f32) (k : FVec Ideal S512x128 .bf16) (r : Fin 1024) :
    k0_pay53 q m k (ix2 r 0) = max (m (ix2 r 0) : EReal) (univ.fold max ⊥ fun c : Fin 512 => k0_pay52 q k (ix2 r c)) := by
  pointwise [k0_pay53]
  rw [neg_inf]

/-- The normaliser after a 512-key block. -/
theorem norm_narrow (q : FVec Ideal S1024x128 .bf16) (m l : FVec Ideal S1024x1 .f32) (k : FVec Ideal S512x128 .bf16) (r : Fin 1024) :
    k0_pay56 q m l k (ix2 r 0) = Ideal.exp2 ((m (ix2 r 0) : EReal) - k0_pay53 q m k (ix2 r 0)) * l (ix2 r 0)
      + ∑ c : Fin 512, Ideal.exp2 ((k0_pay52 q k (ix2 r c) : EReal) - k0_pay53 q m k (ix2 r 0)) := by
  pointwise [k0_pay56, k0_pay54, k0_pay55]
  rfl

/-- The weighted sum after a 512-key block. -/
theorem acc_narrow (q : FVec Ideal S1024x128 .bf16) (m : FVec Ideal S1024x1 .f32) (a : FVec Ideal S1024x128 .f32)
    (k v : FVec Ideal S512x128 .bf16) (r : Fin 1024) (d : Fin 128) :
    k0_pay57 q m a k v (ix2 r d) = Ideal.exp2 ((m (ix2 r 0) : EReal) - k0_pay53 q m k (ix2 r 0)) * a (ix2 r d)
      + ∑ c : Fin 512, Ideal.exp2 ((k0_pay52 q k (ix2 r c) : EReal) - k0_pay53 q m k (ix2 r 0)) * v (ix2 c d) := by
  pointwise [k0_pay57, k0_pay54, k0_pay55]
  rfl

/-- A 512-key block, every key of it seen. -/
theorem step_narrow {n : ℕ} {s : Fin 1024 → ℕ → ℝ} {v : Fin 128 → ℕ → ℝ} {m l : FVec Ideal S1024x1 .f32}
    {a : FVec Ideal S1024x128 .f32} (q : FVec Ideal S1024x128 .bf16) (k w : FVec Ideal S512x128 .bf16)
    (hs : ∀ (r : Fin 1024) (c : Fin 512), (∑ j : Fin 128, (q (ix2 r j) : EReal) * k (ix2 c j)) = (s r (n + c) : ℝ))
    (hv : ∀ (c : Fin 512) (d : Fin 128), (w (ix2 c d) : EReal) = (v d (n + c) : ℝ))
    (h : HeadSeen (fun _ => range n) s v m l a) :
    HeadSeen (fun _ => range (n + 512)) s v (k0_pay53 q m k) (k0_pay56 q m l k) (k0_pay57 q m a k w) := by
  intro r d
  rw [norm_narrow, acc_narrow, max_narrow]
  exact (h r d).step (fun j : Fin 512 => n + j.val) (fun _ => True) (sum_range_add n 512)
    (fun c => k0_pay52 q k (ix2 r c)) (fun c => w (ix2 c d)) (fun c => by rw [if_pos trivial, score_narrow, hs])
    (fun c => hv c d) ⟨0, trivial⟩

/-! ## The masked block -/

/-- A key's chunk within its tile. -/
theorem key_chunk (r : Fin 1024) (c : Fin 512) : k0_pay132 (ix2 r c) = BitVec.ofNat 32 (c.val / 64) := by
  pointwise [k0_pay132]
  clear r; revert c; decide +kernel

/-- A stacked row's query within its tile. -/
theorem row_in_tile (r : Fin 1024) (c : Fin 512) : k0_pay133 (ix2 r c) = BitVec.ofNat 32 (r.val % 512) := by
  pointwise [k0_pay133]
  clear c; revert r; decide +kernel

theorem sixty_four (r : Fin 1024) (c : Fin 512) : k0_pay134 (ix2 r c) = 64#32 := by
  pointwise [k0_pay134]

/-- The query's chunk, as the word operations of a floor division give it. -/
theorem query_chunk : ∀ r : Fin 512,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by
  decide +kernel

theorem chunk_le : ∀ a b : Fin 8,
    IntOp.cmpi CmpIPredicate.sle (BitVec.ofNat 32 a.val) (BitVec.ofNat 32 b.val) = BitVec.ofBool (decide (a.val ≤ b.val)) := by
  decide +kernel

/-- The masked scores: a key's score where its chunk is not after the query's, −∞ elsewhere. -/
theorem masked (s : FVec Ideal S1024x512 .f32) (r : Fin 1024) (c : Fin 512) :
    k0_pay135 s k0_pay132 k0_pay133 64#32 k0_pay134 (ix2 r c)
      = if c.val / 64 ≤ r.val % 512 / 64 then (s (ix2 r c) : EReal) else ⊥ := by
  pointwise [k0_pay135]
  rw [key_chunk, row_in_tile, sixty_four, query_chunk ⟨r.val % 512, Nat.mod_lt _ (by decide)⟩,
    chunk_le ⟨c.val / 64, by omega⟩ ⟨r.val % 512 / 64, by omega⟩, neg_inf]
  by_cases h : c.val / 64 ≤ r.val % 512 / 64 <;> simp [h, Scalar.select]

/-- The scores of the last block, before the mask. -/
theorem score_last (q : FVec Ideal S1024x128 .bf16) (k : FVec Ideal S512x128 .bf16) (r : Fin 1024) (c : Fin 512) :
    k0_pay131 q k (ix2 r c) = ∑ j : Fin 128, (q (ix2 r j) : EReal) * k (ix2 c j) := by
  pointwise [k0_pay131]

theorem max_last (m : FVec Ideal S1024x1 .f32) (s : FVec Ideal S1024x512 .f32) (x y : IVec S1024x512 32) (z : BitVec 32)
    (t : IVec S1024x512 32) (r : Fin 1024) :
    k0_pay136 m s x y z t (ix2 r 0)
      = max (m (ix2 r 0) : EReal) (univ.fold max ⊥ fun c : Fin 512 => k0_pay135 s x y z t (ix2 r c)) := by
  pointwise [k0_pay136]
  rw [neg_inf]

theorem norm_last (m l : FVec Ideal S1024x1 .f32) (s : FVec Ideal S1024x512 .f32) (x y : IVec S1024x512 32) (z : BitVec 32)
    (t : IVec S1024x512 32) (r : Fin 1024) :
    k0_pay139 m l s x y z t (ix2 r 0)
      = Ideal.exp2 ((m (ix2 r 0) : EReal) - k0_pay136 m s x y z t (ix2 r 0)) * l (ix2 r 0)
      + ∑ c : Fin 512, Ideal.exp2 ((k0_pay135 s x y z t (ix2 r c) : EReal) - k0_pay136 m s x y z t (ix2 r 0)) := by
  pointwise [k0_pay139, k0_pay137, k0_pay138]
  rfl

theorem acc_last (m : FVec Ideal S1024x1 .f32) (a : FVec Ideal S1024x128 .f32) (v : FVec Ideal S512x128 .bf16)
    (s : FVec Ideal S1024x512 .f32) (x y : IVec S1024x512 32) (z : BitVec 32)
    (t : IVec S1024x512 32) (r : Fin 1024) (d : Fin 128) :
    k0_pay140 m a v s x y z t (ix2 r d)
      = Ideal.exp2 ((m (ix2 r 0) : EReal) - k0_pay136 m s x y z t (ix2 r 0)) * a (ix2 r d)
      + ∑ c : Fin 512, Ideal.exp2 ((k0_pay135 s x y z t (ix2 r c) : EReal) - k0_pay136 m s x y z t (ix2 r 0)) * v (ix2 c d) := by
  pointwise [k0_pay140, k0_pay137, k0_pay138]
  rfl

/-- The keys a query sees: those whose chunk is not after the query's. -/
def seenBy (p : ℕ) : Finset ℕ := (range 8192).filter fun k => k / 64 ≤ p / 64

/-- They are the keys of the earlier tiles and the visible keys of the query's own. -/
theorem sum_seenBy (i : ℕ) (hi : i < 16) (r : ℕ) (hr : r < 512) (f : ℕ → ℝ) :
    ∑ k ∈ seenBy (512 * i + r), f k
      = ∑ k ∈ range (512 * i), f k + ∑ j : Fin 512, if j.val / 64 ≤ r / 64 then f (512 * i + j) else 0 := by
  unfold seenBy
  rw [sum_filter, show 8192 = 512 * i + 512 + (8192 - (512 * i + 512)) by omega, Finset.sum_range_add,
    Finset.sum_range_add, Fin.sum_univ_eq_sum_range (fun j => if j / 64 ≤ r / 64 then f (512 * i + j) else 0) 512]
  rw [sum_eq_zero (s := range (8192 - (512 * i + 512))) (fun x _ => if_neg (by omega)), add_zero]
  congr 1
  · exact sum_congr rfl fun x hx => if_pos (by have := mem_range.mp hx; omega)
  · exact sum_congr rfl fun x hx => by
      have e : (512 * i + x) / 64 ≤ (512 * i + r) / 64 ↔ x / 64 ≤ r / 64 := by omega
      simp only [e]

/-- The last block of query tile `i`: afterwards each row has seen exactly its query's keys. -/
theorem step_last {i : ℕ} (hi : i < 16) {s : Fin 1024 → ℕ → ℝ} {v : Fin 128 → ℕ → ℝ} {m l : FVec Ideal S1024x1 .f32}
    {a : FVec Ideal S1024x128 .f32} (q : FVec Ideal S1024x128 .bf16) (k w : FVec Ideal S512x128 .bf16)
    (hs : ∀ (r : Fin 1024) (c : Fin 512), (∑ j : Fin 128, (q (ix2 r j) : EReal) * k (ix2 c j)) = (s r (512 * i + c) : ℝ))
    (hv : ∀ (c : Fin 512) (d : Fin 128), (w (ix2 c d) : EReal) = (v d (512 * i + c) : ℝ))
    (h : HeadSeen (fun _ => range (512 * i)) s v m l a) :
    HeadSeen (fun r => seenBy (512 * i + r.val % 512)) s v
      (k0_pay136 m (k0_pay131 q k) k0_pay132 k0_pay133 64#32 k0_pay134)
      (k0_pay139 m l (k0_pay131 q k) k0_pay132 k0_pay133 64#32 k0_pay134)
      (k0_pay140 m a w (k0_pay131 q k) k0_pay132 k0_pay133 64#32 k0_pay134) := by
  intro r d
  rw [norm_last, acc_last, max_last]
  exact (h r d).step (fun j : Fin 512 => 512 * i + j.val) (fun j => j.val / 64 ≤ r.val % 512 / 64)
    (sum_seenBy i hi (r.val % 512) (Nat.mod_lt _ (by decide)))
    (fun c => k0_pay135 (k0_pay131 q k) k0_pay132 k0_pay133 64#32 k0_pay134 (ix2 r c)) (fun c => w (ix2 c d))
    (fun c => by rw [masked, score_last, hs]) (fun c => hv c d) ⟨0, by simp⟩

end Cert.Block

end
-- ==== Proof.LoopValue.lean ====
/-
  The two loops over the tiles before the query's own: the trips of each, where each trip reads keys and values, and
  what the four heads' carried vectors hold after each trip.
-/
module

public import proofs.«01_k».proof.Proof.Steps
public import proofs.«01_k».proof.Proof.Gen.KernelIdeal.Loops

@[expose] public section

set_option maxRecDepth 16384

noncomputable section

namespace Cert.Block

open Cert.KernelIdeal Cert.KernelIdeal.Gen Idealize.ShloMosaic Idealize.ShloMosaic.TcCoe Idealize.SL.Sem Cert.Softmax Finset

/-! ## Trips and places -/

/-- The query tile of a grid point, one of sixteen. -/
theorem tile_lt (i : grid0.Coords) : (i 2).val < 16 := (i 2).isLt

/-- The first loop goes through the pairs of tiles before tile `i`. -/
theorem trips1 (i : grid0.Coords) : (k0_t1_loop i).trips = (i 2).val / 2 := by
  have h := tile_lt i
  unfold k0_t1_loop
  generalize (i 2).val = n at *
  interval_cases n <;> rfl

theorem trips2 (i : grid0.Coords) : (k0_t2_loop i).trips = 0 := by
  have h := tile_lt i
  unfold k0_t2_loop
  generalize (i 2).val = n at *
  interval_cases n <;> rfl

/-- The second takes the odd tile left. -/
theorem trips3 (i : grid0.Coords) : (k0_t3_loop i).trips = (i 2).val % 2 := by
  have h := tile_lt i
  unfold k0_t3_loop
  generalize (i 2).val = n at *
  interval_cases n <;> rfl

theorem trips4 (i : grid0.Coords) : (k0_t4_loop i).trips = 0 := by
  have h := tile_lt i
  unfold k0_t4_loop
  generalize (i 2).val = n at *
  interval_cases n <;> rfl

theorem trip1_lt (i : grid0.Coords) (k : Fin (k0_t1_loop i).trips) : k.val < 8 := by
  have := k.isLt; have := trips1 i; have := tile_lt i; omega

theorem trip3_zero (i : grid0.Coords) (k : Fin (k0_t3_loop i).trips) : k.val = 0 := by
  have := k.isLt; have := trips3 i; omega

theorem off1 (i : grid0.Coords) (k : Fin (k0_t1_loop i).trips) : k0_off1 i k = ![1024 * k.val, 0] := by
  have hk := trip1_lt i k
  unfold k0_off1
  generalize k.val = n at *
  interval_cases n <;> rfl

theorem off2 (i : grid0.Coords) (k : Fin (k0_t1_loop i).trips) : k0_off2 i k = ![1024 * k.val, 128] := by
  have hk := trip1_lt i k
  unfold k0_off2
  generalize k.val = n at *
  interval_cases n <;> rfl

theorem off3 (i : grid0.Coords) (k : Fin (k0_t1_loop i).trips) : k0_off3 i k = ![1024 * k.val, 256] := by
  have hk := trip1_lt i k
  unfold k0_off3
  generalize k.val = n at *
  interval_cases n <;> rfl

theorem off4 (i : grid0.Coords) (k : Fin (k0_t1_loop i).trips) : k0_off4 i k = ![1024 * k.val, 384] := by
  have hk := trip1_lt i k
  unfold k0_off4
  generalize k.val = n at *
  interval_cases n <;> rfl

theorem off9 (i : grid0.Coords) (k : Fin (k0_t3_loop i).trips) : k0_off9 i k = ![512 * ((i 2).val / 2 * 2), 0] := by
  have h := tile_lt i
  unfold k0_off9
  rw [trip3_zero i k]
  generalize (i 2).val = n at *
  interval_cases n <;> rfl

theorem off10 (i : grid0.Coords) (k : Fin (k0_t3_loop i).trips) : k0_off10 i k = ![512 * ((i 2).val / 2 * 2), 128] := by
  have h := tile_lt i
  unfold k0_off10
  rw [trip3_zero i k]
  generalize (i 2).val = n at *
  interval_cases n <;> rfl

theorem off11 (i : grid0.Coords) (k : Fin (k0_t3_loop i).trips) : k0_off11 i k = ![512 * ((i 2).val / 2 * 2), 256] := by
  have h := tile_lt i
  unfold k0_off11
  rw [trip3_zero i k]
  generalize (i 2).val = n at *
  interval_cases n <;> rfl

theorem off12 (i : grid0.Coords) (k : Fin (k0_t3_loop i).trips) : k0_off12 i k = ![512 * ((i 2).val / 2 * 2), 384] := by
  have h := tile_lt i
  unfold k0_off12
  rw [trip3_zero i k]
  generalize (i 2).val = n at *
  interval_cases n <;> rfl

theorem off17 (i : grid0.Coords) : k0_off17 i = ![512 * (i 2).val, 0] := by
  have h := tile_lt i
  unfold k0_off17
  generalize (i 2).val = n at *
  interval_cases n <;> rfl

theorem off18 (i : grid0.Coords) : k0_off18 i = ![512 * (i 2).val, 128] := by
  have h := tile_lt i
  unfold k0_off18
  generalize (i 2).val = n at *
  interval_cases n <;> rfl

theorem off19 (i : grid0.Coords) : k0_off19 i = ![512 * (i 2).val, 256] := by
  have h := tile_lt i
  unfold k0_off19
  generalize (i 2).val = n at *
  interval_cases n <;> rfl

theorem off20 (i : grid0.Coords) : k0_off20 i = ![512 * (i 2).val, 384] := by
  have h := tile_lt i
  unfold k0_off20
  generalize (i 2).val = n at *
  interval_cases n <;> rfl

/-- A load of 1024 keys of one head. -/
theorem load_wide (arg : Memref sig .tc .vmem S8192x512 .bf16) (harg : arg.IsWhole) (x : FVec Ideal S8192x512 .bf16)
    (off : Fin 2 → ℕ) (inb : ∀ a, off a + S1024x128.size a ≤ S8192x512.size a) (n o : ℕ) (ho : off = ![n, o])
    (hn : n + 1024 ≤ 8192) (ho' : o + 128 ≤ 512) (r : Fin 1024) (d : Fin 128) :
    View.readAt (Elt Ideal) arg.view (Rect.unit (s := S8192x512) off S1024x128.size inb).toLoadRect (harg.unread x) (ix2 r d)
      = x (ix2 ⟨n + r, by omega⟩ ⟨o + d, by omega⟩) := by
  subst ho
  rw [View.readAt_eq_ld, harg.read_unread]
  pointwise

/-- A load of 512 keys of one head. -/
theorem load_narrow (arg : Memref sig .tc .vmem S8192x512 .bf16) (harg : arg.IsWhole) (x : FVec Ideal S8192x512 .bf16)
    (off : Fin 2 → ℕ) (inb : ∀ a, off a + S512x128.size a ≤ S8192x512.size a) (n o : ℕ) (ho : off = ![n, o])
    (hn : n + 512 ≤ 8192) (ho' : o + 128 ≤ 512) (r : Fin 512) (d : Fin 128) :
    View.readAt (Elt Ideal) arg.view (Rect.unit (s := S8192x512) off S512x128.size inb).toLoadRect (harg.unread x) (ix2 r d)
      = x (ix2 ⟨n + r, by omega⟩ ⟨o + d, by omega⟩) := by
  subst ho
  rw [View.readAt_eq_ld, harg.read_unread]
  pointwise

/-! ## The four heads together -/

/-- The vectors the loops carry: maximum, normaliser and weighted sum of each head. -/
abbrev Carry := FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32

/-- What they hold, each head at its own scores and values. -/
def Carried (K : Fin 4 → Fin 1024 → Finset ℕ) (s : Fin 4 → Fin 1024 → ℕ → ℝ) (v : Fin 4 → Fin 128 → ℕ → ℝ) (acc : Carry) : Prop :=
    HeadSeen (K 0) (s 0) (v 0) (acc.1) (acc.2.1) (acc.2.2.1) ∧
    HeadSeen (K 1) (s 1) (v 1) (acc.2.2.2.1) (acc.2.2.2.2.1) (acc.2.2.2.2.2.1) ∧
    HeadSeen (K 2) (s 2) (v 2) (acc.2.2.2.2.2.2.1) (acc.2.2.2.2.2.2.2.1) (acc.2.2.2.2.2.2.2.2.1) ∧
    HeadSeen (K 3) (s 3) (v 3) (acc.2.2.2.2.2.2.2.2.2.1) (acc.2.2.2.2.2.2.2.2.2.2.1) (acc.2.2.2.2.2.2.2.2.2.2.2)

/-- The scores and values the carried sums are taken over: head `h`'s inner products of its stacked queries with the
    keys, and its columns of the values, all real. -/
structure Rows (q : Fin 4 → FVec Ideal S1024x128 .bf16) (x3 x4 : FVec Ideal S8192x512 .bf16)
    (s : Fin 4 → Fin 1024 → ℕ → ℝ) (v : Fin 4 → Fin 128 → ℕ → ℝ) : Prop where
  score : ∀ (h : Fin 4) (r : Fin 1024) (n : ℕ) (hn : n < 8192),
    (∑ j : Fin 128, (q h (ix2 r j) : EReal) * x3 (ix2 ⟨n, hn⟩ ⟨128 * h.val + j.val, by omega⟩)) = (s h r n : ℝ)
  value : ∀ (h : Fin 4) (d : Fin 128) (n : ℕ) (hn : n < 8192),
    (x4 (ix2 ⟨n, hn⟩ ⟨128 * h.val + d.val, by omega⟩) : EReal) = (v h d n : ℝ)

/-- One trip over 1024 keys, the four heads in turn. -/
abbrev wide (v10 v21 v32 v43 k0 w0 k1 w1 k2 w2 k3 w3 : FVec Ideal S1024x128 .bf16) (acc : Carry) : Carry :=
  (k0_pay3 v10 (acc.1) k0,
      k0_pay6 v10 (acc.1) (acc.2.1) k0,
      k0_pay7 v10 (acc.1) (acc.2.2.1) k0 w0,
      k0_pay3 v21 (acc.2.2.2.1) k1,
      k0_pay6 v21 (acc.2.2.2.1) (acc.2.2.2.2.1) k1,
      k0_pay7 v21 (acc.2.2.2.1) (acc.2.2.2.2.2.1) k1 w1,
      k0_pay3 v32 (acc.2.2.2.2.2.2.1) k2,
      k0_pay6 v32 (acc.2.2.2.2.2.2.1) (acc.2.2.2.2.2.2.2.1) k2,
      k0_pay7 v32 (acc.2.2.2.2.2.2.1) (acc.2.2.2.2.2.2.2.2.1) k2 w2,
      k0_pay3 v43 (acc.2.2.2.2.2.2.2.2.2.1) k3,
      k0_pay6 v43 (acc.2.2.2.2.2.2.2.2.2.1) (acc.2.2.2.2.2.2.2.2.2.2.1) k3,
      k0_pay7 v43 (acc.2.2.2.2.2.2.2.2.2.1) (acc.2.2.2.2.2.2.2.2.2.2.2) k3 w3)

/-- One trip over 512 keys, the four heads in turn. -/
abbrev narrow (v10 v21 v32 v43 : FVec Ideal S1024x128 .bf16) (k0 w0 k1 w1 k2 w2 k3 w3 : FVec Ideal S512x128 .bf16) (acc : Carry) : Carry :=
  (k0_pay53 v10 (acc.1) k0,
      k0_pay56 v10 (acc.1) (acc.2.1) k0,
      k0_pay57 v10 (acc.1) (acc.2.2.1) k0 w0,
      k0_pay53 v21 (acc.2.2.2.1) k1,
      k0_pay56 v21 (acc.2.2.2.1) (acc.2.2.2.2.1) k1,
      k0_pay57 v21 (acc.2.2.2.1) (acc.2.2.2.2.2.1) k1 w1,
      k0_pay53 v32 (acc.2.2.2.2.2.2.1) k2,
      k0_pay56 v32 (acc.2.2.2.2.2.2.1) (acc.2.2.2.2.2.2.2.1) k2,
      k0_pay57 v32 (acc.2.2.2.2.2.2.1) (acc.2.2.2.2.2.2.2.2.1) k2 w2,
      k0_pay53 v43 (acc.2.2.2.2.2.2.2.2.2.1) k3,
      k0_pay56 v43 (acc.2.2.2.2.2.2.2.2.2.1) (acc.2.2.2.2.2.2.2.2.2.2.1) k3,
      k0_pay57 v43 (acc.2.2.2.2.2.2.2.2.2.1) (acc.2.2.2.2.2.2.2.2.2.2.2) k3 w3)

section

variable {𝒱 : Variants} {c : Dev nD} {bd : Option 𝒱.V} {i : grid0.Coords} {arg3 : Memref sig .tc .vmem S8x128 .f32} {harg3 : arg3.IsWhole} {arg4 : Memref sig .tc .vmem S1x128 .f32} {harg4 : arg4.IsWhole} {arg5 : Memref sig .tc .vmem S512x512 .bf16} {harg5 : arg5.IsWhole} {arg6 : Memref sig .tc .vmem S8192x512 .bf16} {harg6 : arg6.IsWhole} {arg7 : Memref sig .tc .vmem S8192x512 .bf16} {harg7 : arg7.IsWhole} {arg8 : Memref sig .tc .vmem S512x512 .bf16} {harg8 : arg8.IsWhole} {arg2 : BitVec 32} {v10 v21 v32 v43 : FVec Ideal S1024x128 .bf16} {v44 v45 : FVec Ideal S1024x1 .f32} {v46 : FVec Ideal S1024x128 .f32} {v47 v48 : FVec Ideal S1024x1 .f32} {v49 : FVec Ideal S1024x128 .f32} {v50 v51 : FVec Ideal S1024x1 .f32} {v52 : FVec Ideal S1024x128 .f32} {v53 v54 : FVec Ideal S1024x1 .f32} {v55 : FVec Ideal S1024x128 .f32} {v73 c0_i32_31 v74 : BitVec 32} {v101 : BitVec 32}
variable (X6 : BufTy.Contents (Elt Ideal) arg6.view.ty) (X7 : BufTy.Contents (Elt Ideal) arg7.view.ty)

/-- What a trip of the first loop yields. -/
theorem trip1_eq (k : Fin (k0_t1_loop i).trips) (acc : Carry) :
    tripR_k0_t1 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 X6 X7 k acc = wide v10 v21 v32 v43
      (View.readAt (Elt Ideal) arg6.view (Rect.unit (s := S8192x512) (k0_off1 i k) S1024x128.size (k0_off1_inb i k)).toLoadRect X6)
      (View.readAt (Elt Ideal) arg7.view (Rect.unit (s := S8192x512) (k0_off1 i k) S1024x128.size (k0_off1_inb i k)).toLoadRect X7)
      (View.readAt (Elt Ideal) arg6.view (Rect.unit (s := S8192x512) (k0_off2 i k) S1024x128.size (k0_off2_inb i k)).toLoadRect X6)
      (View.readAt (Elt Ideal) arg7.view (Rect.unit (s := S8192x512) (k0_off2 i k) S1024x128.size (k0_off2_inb i k)).toLoadRect X7)
      (View.readAt (Elt Ideal) arg6.view (Rect.unit (s := S8192x512) (k0_off3 i k) S1024x128.size (k0_off3_inb i k)).toLoadRect X6)
      (View.readAt (Elt Ideal) arg7.view (Rect.unit (s := S8192x512) (k0_off3 i k) S1024x128.size (k0_off3_inb i k)).toLoadRect X7)
      (View.readAt (Elt Ideal) arg6.view (Rect.unit (s := S8192x512) (k0_off4 i k) S1024x128.size (k0_off4_inb i k)).toLoadRect X6)
      (View.readAt (Elt Ideal) arg7.view (Rect.unit (s := S8192x512) (k0_off4 i k) S1024x128.size (k0_off4_inb i k)).toLoadRect X7) acc := by
  unfold tripR_k0_t1 trip_k0_t1
  rfl

/-- What a trip of the second loop yields. -/
theorem trip3_eq (k : Fin (k0_t3_loop i).trips) (acc : Carry) :
    tripR_k0_t3 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 v101 X6 X7 k acc = narrow v10 v21 v32 v43
      (View.readAt (Elt Ideal) arg6.view (Rect.unit (s := S8192x512) (k0_off9 i k) S512x128.size (k0_off9_inb i k)).toLoadRect X6)
      (View.readAt (Elt Ideal) arg7.view (Rect.unit (s := S8192x512) (k0_off9 i k) S512x128.size (k0_off9_inb i k)).toLoadRect X7)
      (View.readAt (Elt Ideal) arg6.view (Rect.unit (s := S8192x512) (k0_off10 i k) S512x128.size (k0_off10_inb i k)).toLoadRect X6)
      (View.readAt (Elt Ideal) arg7.view (Rect.unit (s := S8192x512) (k0_off10 i k) S512x128.size (k0_off10_inb i k)).toLoadRect X7)
      (View.readAt (Elt Ideal) arg6.view (Rect.unit (s := S8192x512) (k0_off11 i k) S512x128.size (k0_off11_inb i k)).toLoadRect X6)
      (View.readAt (Elt Ideal) arg7.view (Rect.unit (s := S8192x512) (k0_off11 i k) S512x128.size (k0_off11_inb i k)).toLoadRect X7)
      (View.readAt (Elt Ideal) arg6.view (Rect.unit (s := S8192x512) (k0_off12 i k) S512x128.size (k0_off12_inb i k)).toLoadRect X6)
      (View.readAt (Elt Ideal) arg7.view (Rect.unit (s := S8192x512) (k0_off12 i k) S512x128.size (k0_off12_inb i k)).toLoadRect X7) acc := by
  unfold tripR_k0_t3 trip_k0_t3
  rfl

variable {x3 x4 : FVec Ideal S8192x512 .bf16} {s : Fin 4 → Fin 1024 → ℕ → ℝ} {v : Fin 4 → Fin 128 → ℕ → ℝ}

/-- After `k` trips of the first loop the first `1024 k` keys are in. -/
theorem loop1 (hd : Rows ![v10, v21, v32, v43] x3 x4 s v) {acc : Carry} (h : Carried (fun _ _ => range 0) s v acc) :
    ∀ k ≤ (k0_t1_loop i).trips, Carried (fun _ _ => range (1024 * k)) s v
      (st_k0_t1 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 (harg6.unread x3) (harg7.unread x4) acc k)
  | 0, _ => by rw [st_k0_t1_zero]; exact h
  | k + 1, hk => by
    have ih := loop1 hd h k (Nat.le_of_succ_le hk)
    have h8 := trip1_lt i ⟨k, hk⟩
    dsimp only at h8
    rw [st_k0_t1_succ (k := ⟨k, hk⟩), trip1_eq]
    generalize st_k0_t1 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 (harg6.unread x3) (harg7.unread x4) acc k = a at *
    exact ⟨
      step_wide _ _ _
        (fun r c => by simp only [load_wide arg6 harg6 x3 _ _ _ _ (off1 i ⟨k, hk⟩) (by dsimp only; omega) (by decide)]; exact hd.score 0 r _ _)
        (fun c d => (load_wide arg7 harg7 x4 _ _ _ _ (off1 i ⟨k, hk⟩) (by dsimp only; omega) (by decide) c d).trans (hd.value 0 d _ _)) ih.1,
      step_wide _ _ _
        (fun r c => by simp only [load_wide arg6 harg6 x3 _ _ _ _ (off2 i ⟨k, hk⟩) (by dsimp only; omega) (by decide)]; exact hd.score 1 r _ _)
        (fun c d => (load_wide arg7 harg7 x4 _ _ _ _ (off2 i ⟨k, hk⟩) (by dsimp only; omega) (by decide) c d).trans (hd.value 1 d _ _)) ih.2.1,
      step_wide _ _ _
        (fun r c => by simp only [load_wide arg6 harg6 x3 _ _ _ _ (off3 i ⟨k, hk⟩) (by dsimp only; omega) (by decide)]; exact hd.score 2 r _ _)
        (fun c d => (load_wide arg7 harg7 x4 _ _ _ _ (off3 i ⟨k, hk⟩) (by dsimp only; omega) (by decide) c d).trans (hd.value 2 d _ _)) ih.2.2.1,
      step_wide _ _ _
        (fun r c => by simp only [load_wide arg6 harg6 x3 _ _ _ _ (off4 i ⟨k, hk⟩) (by dsimp only; omega) (by decide)]; exact hd.score 3 r _ _)
        (fun c d => (load_wide arg7 harg7 x4 _ _ _ _ (off4 i ⟨k, hk⟩) (by dsimp only; omega) (by decide) c d).trans (hd.value 3 d _ _)) ih.2.2.2⟩

/-- After the second loop every tile before the query's own is in. -/
theorem loop3 (hd : Rows ![v10, v21, v32, v43] x3 x4 s v) {acc : Carry}
    (h : Carried (fun _ _ => range (512 * ((i 2).val / 2 * 2))) s v acc) :
    Carried (fun _ _ => range (512 * (i 2).val)) s v
      (st_k0_t3 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 v101 (harg6.unread x3) (harg7.unread x4) acc (k0_t3_loop i).trips) := by
  have h16 := tile_lt i
  rcases Nat.mod_two_eq_zero_or_one (i 2).val with e | e
  · rw [show (k0_t3_loop i).trips = 0 by rw [trips3, e], st_k0_t3_zero, show (i 2).val = (i 2).val / 2 * 2 by omega]
    exact h
  · have h0 : 0 < (k0_t3_loop i).trips := by rw [trips3, e]; decide
    rw [show (k0_t3_loop i).trips = (⟨0, h0⟩ : Fin (k0_t3_loop i).trips).val + 1 by show _ = 0 + 1; rw [trips3, e], st_k0_t3_succ, st_k0_t3_zero, trip3_eq,
      show 512 * (i 2).val = 512 * ((i 2).val / 2 * 2) + 512 by omega]
    exact ⟨
      step_narrow _ _ _
        (fun r c => by simp only [load_narrow arg6 harg6 x3 _ _ _ _ (off9 i ⟨0, h0⟩) (by omega) (by decide)]; exact hd.score 0 r _ _)
        (fun c d => (load_narrow arg7 harg7 x4 _ _ _ _ (off9 i ⟨0, h0⟩) (by omega) (by decide) c d).trans (hd.value 0 d _ _)) h.1,
      step_narrow _ _ _
        (fun r c => by simp only [load_narrow arg6 harg6 x3 _ _ _ _ (off10 i ⟨0, h0⟩) (by omega) (by decide)]; exact hd.score 1 r _ _)
        (fun c d => (load_narrow arg7 harg7 x4 _ _ _ _ (off10 i ⟨0, h0⟩) (by omega) (by decide) c d).trans (hd.value 1 d _ _)) h.2.1,
      step_narrow _ _ _
        (fun r c => by simp only [load_narrow arg6 harg6 x3 _ _ _ _ (off11 i ⟨0, h0⟩) (by omega) (by decide)]; exact hd.score 2 r _ _)
        (fun c d => (load_narrow arg7 harg7 x4 _ _ _ _ (off11 i ⟨0, h0⟩) (by omega) (by decide) c d).trans (hd.value 2 d _ _)) h.2.2.1,
      step_narrow _ _ _
        (fun r c => by simp only [load_narrow arg6 harg6 x3 _ _ _ _ (off12 i ⟨0, h0⟩) (by omega) (by decide)]; exact hd.score 3 r _ _)
        (fun c d => (load_narrow arg7 harg7 x4 _ _ _ _ (off12 i ⟨0, h0⟩) (by omega) (by decide) c d).trans (hd.value 3 d _ _)) h.2.2.2⟩

end

end Cert.Block

end
-- ==== Proof.HeadValue.lean ====
/-
  What surrounds the loops in one head of a block: the stacked queries before them (the two halves of a query's lanes
  on 512 rows each), and after them the difference of the two means, scaled to a root mean square of one.
-/
module

public import proofs.«01_k».proof.Proof.Softmax
public import proofs.«01_k».proof.Proof.Gen.KernelIdeal.Skeleton
public import Idealize.ShloMosaic.Lib.Pointwise

@[expose] public section

set_option maxRecDepth 16384

noncomputable section

namespace Cert.Block

open Cert.KernelIdeal Cert.KernelIdeal.Gen Idealize.ShloMosaic Cert.Softmax Finset

/-- The lane comparisons of the kernel's masks, on the 128 lanes. -/
theorem lane_lt : ∀ j : Fin 128, IntOp.cmpi .slt (BitVec.ofNat 32 j.val) 64#32 = if j.val / 64 = 0 then 1#1 else 0#1 := by decide +kernel

theorem lane_ge : ∀ j : Fin 128, IntOp.cmpi .sge (BitVec.ofNat 32 j.val) 64#32 = if j.val / 64 = 1 then 1#1 else 0#1 := by decide +kernel

/-- The stacked queries: rows 0 to 511 keep the first 64 lanes, rows 512 to 1023 the last 64. -/
theorem stacked (q : Vec Ideal S512x128 .bf16) (r : Fin 1024) (j : Fin 128) :
    k0_pay106 q (ix2 r j) = if j.val / 64 = r.val / 512 then (q (ix2 ⟨r.val % 512, by omega⟩ j) : EReal) else 0 := by
  pointwise [k0_pay106]
  rw [lane_lt, lane_ge]
  split
  · rename_i h
    rw [show r.val / 512 = 0 by omega]
    simp only [Nat.mod_eq_of_lt h]
    split <;> rfl
  · rename_i h
    rw [show r.val / 512 = 1 by omega]
    simp only [show r.val % 512 = r.val - 512 by omega]
    split <;> rfl

/-- The weight of the second softmax: two exponentials of inner products of the weight vectors' rows. -/
def lamOf (L : FVec Ideal S8x128 .f32) : EReal :=
  Ideal.exp (∑ j : Fin 128, (L (ix2 0 j) : EReal) * L (ix2 1 j)) - Ideal.exp (∑ j : Fin 128, (L (ix2 2 j) : EReal) * L (ix2 3 j))
    + Ideal.ofBits .f32 0x3E4CCCCD#32

theorem lam_eq (L : FVec Ideal S8x128 .f32) :
    k0_pay179 (F := Ideal) (k0_pay177 L) (k0_pay178 L) (ix2 0 0) = lamOf L := by
  pointwise [k0_pay179, k0_pay177, k0_pay178]
  rfl

/-- A row scaled to a root mean square of one, weighted and damped. -/
def scaled (D g : Fin 128 → EReal) (d : Fin 128) : EReal :=
  D d * Ideal.rsqrt (Ideal.div (∑ j : Fin 128, D j * D j) (Ideal.ofBits .f32 0x43000000#32) + Ideal.ofBits .f32 0x358637BD#32)
    * g d * Ideal.ofBits .f32 0x3F4CCCCD#32

/-- What a head stores, from the normaliser and the weighted sum after the last block. -/
theorem head_eq (l : FVec Ideal S1024x1 .f32) (a : FVec Ideal S1024x128 .f32) (L : FVec Ideal S8x128 .f32) (g : Vec Ideal S1x128 .f32)
    (r : Fin 512) (d : Fin 128) :
    k0_pay180 l a (k0_pay177 L) (k0_pay178 L) g (ix2 r d)
      = scaled (fun d => Ideal.div (a (ix2 ⟨r.val, by omega⟩ d)) (l (ix2 ⟨r.val, by omega⟩ 0))
          - lamOf L * Ideal.div (a (ix2 ⟨512 + r.val, by omega⟩ d)) (l (ix2 ⟨512 + r.val, by omega⟩ 0)))
        (fun d => g (ix2 0 d)) d := by
  rw [← lam_eq]
  pointwise [k0_pay180]
  rfl

end Cert.Block

end
-- ==== Proof.BlockValue.lean ====
/-
  What one grid point leaves in its output block: the pass over the keys from nothing seen to every key of the query's
  own chunk and before, on each of the four heads, and the block of 512 rows they are stored to side by side.
-/
module

public import proofs.«01_k».proof.Proof.LoopValue
public import proofs.«01_k».proof.Proof.HeadValue
public import proofs.«01_k».proof.Proof.Gen.KernelIdeal.Frame

@[expose] public section

set_option maxRecDepth 16384

noncomputable section

namespace Cert.Block

open Cert.KernelIdeal Cert.KernelIdeal.Gen Idealize.ShloMosaic Idealize.ShloMosaic.TcCoe Idealize.SL.Sem Cert.Softmax Finset

/-! ## From the first key to the last block -/

variable {𝒱 : Variants} {c : Dev nD} {bd : Option 𝒱.V} {i : grid0.Coords} {arg3 : Memref sig .tc .vmem S8x128 .f32} {harg3 : arg3.IsWhole} {arg4 : Memref sig .tc .vmem S1x128 .f32} {harg4 : arg4.IsWhole} {arg5 : Memref sig .tc .vmem S512x512 .bf16} {harg5 : arg5.IsWhole} {arg6 : Memref sig .tc .vmem S8192x512 .bf16} {harg6 : arg6.IsWhole} {arg7 : Memref sig .tc .vmem S8192x512 .bf16} {harg7 : arg7.IsWhole} {arg8 : Memref sig .tc .vmem S512x512 .bf16} {harg8 : arg8.IsWhole}

section

variable {arg2 : BitVec 32} {v10 v21 v32 v43 : FVec Ideal S1024x128 .bf16} {v44 v45 : FVec Ideal S1024x1 .f32} {v46 : FVec Ideal S1024x128 .f32} {v47 v48 : FVec Ideal S1024x1 .f32} {v49 : FVec Ideal S1024x128 .f32} {v50 v51 : FVec Ideal S1024x1 .f32} {v52 : FVec Ideal S1024x128 .f32} {v53 v54 : FVec Ideal S1024x1 .f32} {v55 : FVec Ideal S1024x128 .f32} {v73 c0_i32_31 v74 v78 v101 v106 : BitVec 32} {X6 : BufTy.Contents (Elt Ideal) arg6.view.ty} {X7 : BufTy.Contents (Elt Ideal) arg7.view.ty}
variable {K : Fin 4 → Fin 1024 → Finset ℕ} {s : Fin 4 → Fin 1024 → ℕ → ℝ} {v : Fin 4 → Fin 128 → ℕ → ℝ}

/-- The first loop at its end. -/
theorem loop1_end {x3 x4 : FVec Ideal S8192x512 .bf16} (hd : Rows ![v10, v21, v32, v43] x3 x4 s v) {acc : Carry} (h : Carried (fun _ _ => range 0) s v acc) :
    Carried (fun _ _ => range (512 * ((i 2).val / 2 * 2))) s v
      (st_k0_t1 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74  (harg6.unread x3) (harg7.unread x4) acc (k0_t1_loop i).trips) := by
  rw [show 512 * ((i 2).val / 2 * 2) = 1024 * (k0_t1_loop i).trips by rw [trips1]; omega]
  exact loop1 hd h _ le_rfl

/-- The rounded-up remainder of the first loop makes no trip. -/
theorem loop2 {acc : Carry} (h : Carried K s v acc) : Carried K s v
      (st_k0_t2 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 v78 X6 X7 acc (k0_t2_loop i).trips) := by
  rw [trips2, st_k0_t2_zero]; exact h

/-- Nor does that of the second. -/
theorem loop4 {acc : Carry} (h : Carried K s v acc) : Carried K s v
      (st_k0_t4 (F := Ideal) 𝒱 c bd i arg3 harg3 arg4 harg4 arg5 harg5 arg6 harg6 arg7 harg7 arg8 harg8 arg2 v10 v21 v32 v43 v44 v45 v46 v47 v48 v49 v50 v51 v52 v53 v54 v55 v73 c0_i32_31 v74 v101 v106 X6 X7 acc (k0_t4_loop i).trips) := by
  rw [trips4, st_k0_t4_zero]; exact h

end

/-- Before the first key: maximum −∞, sums 0. -/
theorem carried_init (s : Fin 4 → Fin 1024 → ℕ → ℝ) (v : Fin 4 → Fin 128 → ℕ → ℝ) :
    Carried (fun _ _ => range 0) s v (k0_pay113, k0_pay114, k0_pay115, k0_pay116, k0_pay117, k0_pay118, k0_pay119, k0_pay120,
      k0_pay121, k0_pay122, k0_pay123, k0_pay124) := by
  have h : HeadSeen (fun _ => range 0) (s 0) (v 0) (k0_pay113 (F := Ideal)) (k0_pay114 (F := Ideal)) (k0_pay115 (F := Ideal)) := by
    intro r d
    have e1 : k0_pay113 (F := Ideal) (ix2 r 0) = (⊥ : EReal) := by pointwise [k0_pay113]; exact neg_inf
    have e2 : k0_pay114 (F := Ideal) (ix2 r 0) = (0 : EReal) := by pointwise [k0_pay114]
    have e3 : k0_pay115 (F := Ideal) (ix2 r d) = (0 : EReal) := by pointwise [k0_pay115]
    rw [e1, e2, e3, range_zero]
    exact Seen.init _ _
  exact ⟨h, h, h, h⟩

/-! ## The queries of the block -/

/-- The stacked queries of head `h`, read off the block of queries. -/
def stack (x2 : FVec Ideal S512x512 .bf16) (h : Fin 4) (r : Fin 1024) (j : Fin 128) : EReal :=
  if j.val / 64 = r.val / 512 then x2 (ix2 ⟨r.val % 512, by omega⟩ ⟨128 * h.val + j.val, by omega⟩) else 0

/-- A load of the queries of one head. -/
theorem load_query (arg : Memref sig .tc .vmem S512x512 .bf16) (harg : arg.IsWhole) (x : FVec Ideal S512x512 .bf16)
    (o : ℕ) (inb : ∀ a, (![0, o] : Fin 2 → ℕ) a + S512x128.size a ≤ S512x512.size a)
    (ho : o + 128 ≤ 512) (r : Fin 512) (d : Fin 128) :
    View.readAt (Elt Ideal) arg.view (Rect.unit (s := S512x512) ![0, o] S512x128.size inb).toLoadRect (harg.unread x) (ix2 r d)
      = x (ix2 r ⟨o + d, by omega⟩) := by
  rw [View.readAt_eq_ld, harg.read_unread]
  pointwise

/-- What the block's queries, keys and values are in real numbers. -/
structure BlockData (x2 : FVec Ideal S512x512 .bf16) (x3 x4 : FVec Ideal S8192x512 .bf16)
    (s : Fin 4 → Fin 1024 → ℕ → ℝ) (v : Fin 4 → Fin 128 → ℕ → ℝ) : Prop where
  score : ∀ (h : Fin 4) (r : Fin 1024) (n : ℕ) (hn : n < 8192),
    ∑ j : Fin 128, stack x2 h r j * (x3 (ix2 ⟨n, hn⟩ ⟨128 * h.val + j.val, by omega⟩) : EReal) = (s h r n : EReal)
  value : ∀ (h : Fin 4) (d : Fin 128) (n : ℕ) (hn : n < 8192),
    (x4 (ix2 ⟨n, hn⟩ ⟨128 * h.val + d.val, by omega⟩) : EReal) = (v h d n : EReal)

variable {x0 : Vec Ideal S8x128 .f32} {x1 : Vec Ideal S1x128 .f32} {x2 : Vec Ideal S512x512 .bf16} {x3 x4 : Vec Ideal S8192x512 .bf16}
  {s : Fin 4 → Fin 1024 → ℕ → ℝ} {v : Fin 4 → Fin 128 → ℕ → ℝ}

/-- The four stacked queries the loops are given. -/
theorem rows (hd : BlockData x2 x3 x4 s v) :
    Rows ![kernelRun0_A.sl.r (F := Ideal) c arg5 harg5 x2, kernelRun0_A.sl.r_1 (F := Ideal) c arg5 harg5 x2, kernelRun0_A.sl.r_2 (F := Ideal) c arg5 harg5 x2, kernelRun0_A.sl.r_4 (F := Ideal) c arg5 harg5 x2] x3 x4 s v where
  score h r n hn := by
    rw [← hd.score h r n hn]
    refine sum_congr rfl fun j _ => ?_
    congr 1
    fin_cases h
    · exact (stacked _ r j).trans (by rw [load_query arg5 harg5 x2 0 _ (by decide)]; rfl)
    · exact (stacked _ r j).trans (by rw [load_query arg5 harg5 x2 128 _ (by decide)]; rfl)
    · exact (stacked _ r j).trans (by rw [load_query arg5 harg5 x2 256 _ (by decide)]; rfl)
    · exact (stacked (View.readAt (Elt Ideal) arg5.view (Rect.unit (s := S512x512) ![0, 384] S512x128.size inb_S512x512_S512x128_0_384).toLoadRect (harg5.unread x2)) r j).trans
        (by rw [load_query arg5 harg5 x2 384 _ (by decide)]; rfl)
  value h d n hn := hd.value h d n hn

section

variable (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S512x512 .bf16) (harg5 : arg5.IsWhole) (arg6 : Memref sig .tc .vmem S8192x512 .bf16) (harg6 : arg6.IsWhole) (arg7 : Memref sig .tc .vmem S8192x512 .bf16) (harg7 : arg7.IsWhole) (arg8 : Memref sig .tc .vmem S512x512 .bf16) (harg8 : arg8.IsWhole) (x2 : Vec Ideal S512x512 .bf16) (x3 x4 : Vec Ideal S8192x512 .bf16)

/-- What is carried after the first loop. -/
def end1 : Carry :=
  st_k0_t1 (F := Ideal) Variants.none c none i arg3 harg3 arg4 harg4 arg5 harg5 arg6 harg6 arg7 harg7 arg8 harg8 (BitVec.ofNat 32 (i 2).val) (kernelRun0_A.sl.r c arg5 harg5 x2) (kernelRun0_A.sl.r_1 c arg5 harg5 x2) (kernelRun0_A.sl.r_2 c arg5 harg5 x2) (kernelRun0_A.sl.r_4 c arg5 harg5 x2) k0_pay113 k0_pay114 k0_pay115 k0_pay116 k0_pay117 k0_pay118 k0_pay119 k0_pay120 k0_pay121 k0_pay122 k0_pay123 k0_pay124 (kernelRun0_A.sl.v73 i) 0#32 (kernelRun0_A.sl.v74 i)  (harg6.unread x3) (harg7.unread x4) (k0_pay113, k0_pay114, k0_pay115, k0_pay116, k0_pay117, k0_pay118, k0_pay119, k0_pay120, k0_pay121, k0_pay122, k0_pay123, k0_pay124) (k0_t1_loop i).trips

/-- After its remainder. -/
def end2 : Carry :=
  st_k0_t2 (F := Ideal) Variants.none c none i arg3 harg3 arg4 harg4 arg5 harg5 arg6 harg6 arg7 harg7 arg8 harg8 (BitVec.ofNat 32 (i 2).val) (kernelRun0_A.sl.r c arg5 harg5 x2) (kernelRun0_A.sl.r_1 c arg5 harg5 x2) (kernelRun0_A.sl.r_2 c arg5 harg5 x2) (kernelRun0_A.sl.r_4 c arg5 harg5 x2) k0_pay113 k0_pay114 k0_pay115 k0_pay116 k0_pay117 k0_pay118 k0_pay119 k0_pay120 k0_pay121 k0_pay122 k0_pay123 k0_pay124 (kernelRun0_A.sl.v73 i) 0#32 (kernelRun0_A.sl.v74 i) (kernelRun0_A.sl.v78 i) (harg6.unread x3) (harg7.unread x4) (end1 c i arg3 harg3 arg4 harg4 arg5 harg5 arg6 harg6 arg7 harg7 arg8 harg8 x2 x3 x4) (k0_t2_loop i).trips

/-- After the second loop. -/
def end3 : Carry :=
  st_k0_t3 (F := Ideal) Variants.none c none i arg3 harg3 arg4 harg4 arg5 harg5 arg6 harg6 arg7 harg7 arg8 harg8 (BitVec.ofNat 32 (i 2).val) (kernelRun0_A.sl.r c arg5 harg5 x2) (kernelRun0_A.sl.r_1 c arg5 harg5 x2) (kernelRun0_A.sl.r_2 c arg5 harg5 x2) (kernelRun0_A.sl.r_4 c arg5 harg5 x2) k0_pay113 k0_pay114 k0_pay115 k0_pay116 k0_pay117 k0_pay118 k0_pay119 k0_pay120 k0_pay121 k0_pay122 k0_pay123 k0_pay124 (kernelRun0_A.sl.v73 i) 0#32 (kernelRun0_A.sl.v74 i) (kernelRun0_A.sl.v101 i) (harg6.unread x3) (harg7.unread x4) (end2 c i arg3 harg3 arg4 harg4 arg5 harg5 arg6 harg6 arg7 harg7 arg8 harg8 x2 x3 x4) (k0_t3_loop i).trips

/-- After the second loop's remainder. -/
def end4 : Carry :=
  st_k0_t4 (F := Ideal) Variants.none c none i arg3 harg3 arg4 harg4 arg5 harg5 arg6 harg6 arg7 harg7 arg8 harg8 (BitVec.ofNat 32 (i 2).val) (kernelRun0_A.sl.r c arg5 harg5 x2) (kernelRun0_A.sl.r_1 c arg5 harg5 x2) (kernelRun0_A.sl.r_2 c arg5 harg5 x2) (kernelRun0_A.sl.r_4 c arg5 harg5 x2) k0_pay113 k0_pay114 k0_pay115 k0_pay116 k0_pay117 k0_pay118 k0_pay119 k0_pay120 k0_pay121 k0_pay122 k0_pay123 k0_pay124 (kernelRun0_A.sl.v73 i) 0#32 (kernelRun0_A.sl.v74 i) (kernelRun0_A.sl.v101 i) (kernelRun0_A.sl.v106 i) (harg6.unread x3) (harg7.unread x4) (end3 c i arg3 harg3 arg4 harg4 arg5 harg5 arg6 harg6 arg7 harg7 arg8 harg8 x2 x3 x4) (k0_t4_loop i).trips

end

/-- After the loops every key of the tiles before the query's own is in. -/
theorem ended (hd : BlockData x2 x3 x4 s v) : Carried (fun _ _ => range (512 * (i 2).val)) s v (end4 c i arg3 harg3 arg4 harg4 arg5 harg5 arg6 harg6 arg7 harg7 arg8 harg8 x2 x3 x4) :=
  loop4 (loop3 (rows hd) (loop2 (loop1_end (rows hd) (carried_init s v))))

/-! ## The last block -/

theorem keys_cast (w : Vec Ideal S512x128 .bf16) : k0_pay129 w = w := by
  funext j; idx_vars j; pointwise [k0_pay129]

theorem values_cast (w : Vec Ideal S512x128 .bf16) : k0_pay130 w = w := by
  funext j; idx_vars j; pointwise [k0_pay130]

theorem last_fits (i : grid0.Coords) : 512 * (i 2).val + 512 ≤ 8192 := by have := tile_lt i; omega

/-- The normaliser after the last block, from the block's keys. -/
def normOf (q : FVec Ideal S1024x128 .bf16) (k : Vec Ideal S512x128 .bf16) (m l : FVec Ideal S1024x1 .f32) : FVec Ideal S1024x1 .f32 :=
  k0_pay139 m l (k0_pay131 q (k0_pay129 k)) k0_pay132 k0_pay133 64#32 k0_pay134

/-- The weighted sum after the last block, from the block's keys and values. -/
def sumOf (q : FVec Ideal S1024x128 .bf16) (k w : Vec Ideal S512x128 .bf16) (m : FVec Ideal S1024x1 .f32)
    (a : FVec Ideal S1024x128 .f32) : FVec Ideal S1024x128 .f32 :=
  k0_pay140 m a (k0_pay130 w) (k0_pay131 q (k0_pay129 k)) k0_pay132 k0_pay133 64#32 k0_pay134

/-- The masked block on head `h`, at the block's own keys and values. -/
theorem last_step {q : Fin 4 → FVec Ideal S1024x128 .bf16} {m l : FVec Ideal S1024x1 .f32} {a : FVec Ideal S1024x128 .f32}
    (h : Fin 4) {off : Fin 2 → ℕ}
    (e : off = ![512 * (i 2).val, 128 * h.val]) (inb : ∀ a, off a + S512x128.size a ≤ S8192x512.size a)
    (hd : Rows q x3 x4 s v) (hs : HeadSeen (fun _ => range (512 * (i 2).val)) (s h) (v h) m l a) :
    ∃ m', HeadSeen (fun r => seenBy (512 * (i 2).val + r.val % 512)) (s h) (v h) m'
      (normOf (q h) (View.readAt (Elt Ideal) arg6.view (Rect.unit (s := S8192x512) off S512x128.size inb).toLoadRect (harg6.unread x3)) m l)
      (sumOf (q h) (View.readAt (Elt Ideal) arg6.view (Rect.unit (s := S8192x512) off S512x128.size inb).toLoadRect (harg6.unread x3)) (View.readAt (Elt Ideal) arg7.view (Rect.unit (s := S8192x512) off S512x128.size inb).toLoadRect (harg7.unread x4)) m a) := by
  unfold normOf sumOf
  have h4 := h.isLt
  refine ⟨_, step_last (tile_lt i) _ _ _ (fun r c' => ?_) (fun c' d => ?_) hs⟩
  · simp only [keys_cast, load_narrow arg6 harg6 x3 _ inb _ _ e (last_fits i) (by omega)]
    exact hd.score h r _ _
  · rw [values_cast, load_narrow arg7 harg7 x4 _ inb _ _ e (last_fits i) (by omega)]
    exact hd.value h d _ _

/-- The normaliser of head 0 as the run states it. -/
theorem norm_0 : (kernelRun0_A.sl.r_21 (F := Ideal) c i arg3 harg3 arg4 harg4 arg5 harg5 arg6 harg6 arg7 harg7 arg8 harg8 x2 x3 x4) =
    normOf (kernelRun0_A.sl.r (F := Ideal) c arg5 harg5 x2) (View.readAt (Elt Ideal) arg6.view (Rect.unit (s := S8192x512) (k0_off17 i) S512x128.size (k0_off17_inb i)).toLoadRect (harg6.unread x3)) (end4 c i arg3 harg3 arg4 harg4 arg5 harg5 arg6 harg6 arg7 harg7 arg8 harg8 x2 x3 x4).1 (end4 c i arg3 harg3 arg4 harg4 arg5 harg5 arg6 harg6 arg7 harg7 arg8 harg8 x2 x3 x4).2.1 := by sl_kernel_rfl

/-- The weighted sum of head 0 as the run states it. -/
theorem sum_0 : (kernelRun0_A.sl.r_22 (F := Ideal) c i arg3 harg3 arg4 harg4 arg5 harg5 arg6 harg6 arg7 harg7 arg8 harg8 x2 x3 x4) =
    sumOf (kernelRun0_A.sl.r (F := Ideal) c arg5 harg5 x2) (View.readAt (Elt Ideal) arg6.view (Rect.unit (s := S8192x512) (k0_off17 i) S512x128.size (k0_off17_inb i)).toLoadRect (harg6.unread x3)) (View.readAt (Elt Ideal) arg7.view (Rect.unit (s := S8192x512) (k0_off17 i) S512x128.size (k0_off17_inb i)).toLoadRect (harg7.unread x4)) (end4 c i arg3 harg3 arg4 harg4 arg5 harg5 arg6 harg6 arg7 harg7 arg8 harg8 x2 x3 x4).1 (end4 c i arg3 harg3 arg4 harg4 arg5 harg5 arg6 harg6 arg7 harg7 arg8 harg8 x2 x3 x4).2.2.1 := by sl_kernel_rfl

/-- Head 0 after the masked block. -/
theorem last_0 (hd : BlockData x2 x3 x4 s v) : ∃ m, HeadSeen (fun r => seenBy (512 * (i 2).val + r.val % 512)) (s 0) (v 0) m
    (kernelRun0_A.sl.r_21 (F := Ideal) c i arg3 harg3 arg4 harg4 arg5 harg5 arg6 harg6 arg7 harg7 arg8 harg8 x2 x3 x4)
    (kernelRun0_A.sl.r_22 (F := Ideal) c i arg3 harg3 arg4 harg4 arg5 harg5 arg6 harg6 arg7 harg7 arg8 harg8 x2 x3 x4) := by
  rw [norm_0, sum_0]
  have hs := ended (c := c) (i := i) (harg3 := harg3) (harg4 := harg4) (harg5 := harg5) (harg6 := harg6) (harg7 := harg7) (harg8 := harg8) hd
  have e := last_step (harg6 := harg6) (harg7 := harg7) 0 (off17 i) (k0_off17_inb i) (rows (c := c) (harg5 := harg5) hd) hs.1
  exact e

/-- The normaliser of head 1 as the run states it. -/
theorem norm_1 : (kernelRun0_A.sl.r_27 (F := Ideal) c i arg3 harg3 arg4 harg4 arg5 harg5 arg6 harg6 arg7 harg7 arg8 harg8 x2 x3 x4) =
    normOf (kernelRun0_A.sl.r_1 (F := Ideal) c arg5 harg5 x2) (View.readAt (Elt Ideal) arg6.view (Rect.unit (s := S8192x512) (k0_off18 i) S512x128.size (k0_off18_inb i)).toLoadRect (harg6.unread x3)) (end4 c i arg3 harg3 arg4 harg4 arg5 harg5 arg6 harg6 arg7 harg7 arg8 harg8 x2 x3 x4).2.2.2.1 (end4 c i arg3 harg3 arg4 harg4 arg5 harg5 arg6 harg6 arg7 harg7 arg8 harg8 x2 x3 x4).2.2.2.2.1 := by sl_kernel_rfl

/-- The weighted sum of head 1 as the run states it. -/
theorem sum_1 : (kernelRun0_A.sl.r_28 (F := Ideal) c i arg3 harg3 arg4 harg4 arg5 harg5 arg6 harg6 arg7 harg7 arg8 harg8 x2 x3 x4) =
    sumOf (kernelRun0_A.sl.r_1 (F := Ideal) c arg5 harg5 x2) (View.readAt (Elt Ideal) arg6.view (Rect.unit (s := S8192x512) (k0_off18 i) S512x128.size (k0_off18_inb i)).toLoadRect (harg6.unread x3)) (View.readAt (Elt Ideal) arg7.view (Rect.unit (s := S8192x512) (k0_off18 i) S512x128.size (k0_off18_inb i)).toLoadRect (harg7.unread x4)) (end4 c i arg3 harg3 arg4 harg4 arg5 harg5 arg6 harg6 arg7 harg7 arg8 harg8 x2 x3 x4).2.2.2.1 (end4 c i arg3 harg3 arg4 harg4 arg5 harg5 arg6 harg6 arg7 harg7 arg8 harg8 x2 x3 x4).2.2.2.2.2.1 := by sl_kernel_rfl

/-- Head 1 after the masked block. -/
theorem last_1 (hd : BlockData x2 x3 x4 s v) : ∃ m, HeadSeen (fun r => seenBy (512 * (i 2).val + r.val % 512)) (s 1) (v 1) m
    (kernelRun0_A.sl.r_27 (F := Ideal) c i arg3 harg3 arg4 harg4 arg5 harg5 arg6 harg6 arg7 harg7 arg8 harg8 x2 x3 x4)
    (kernelRun0_A.sl.r_28 (F := Ideal) c i arg3 harg3 arg4 harg4 arg5 harg5 arg6 harg6 arg7 harg7 arg8 harg8 x2 x3 x4) := by
  rw [norm_1, sum_1]
  have hs := ended (c := c) (i := i) (harg3 := harg3) (harg4 := harg4) (harg5 := harg5) (harg6 := harg6) (harg7 := harg7) (harg8 := harg8) hd
  have e := last_step (harg6 := harg6) (harg7 := harg7) 1 (off18 i) (k0_off18_inb i) (rows (c := c) (harg5 := harg5) hd) hs.2.1
  exact e

/-- The normaliser of head 2 as the run states it. -/
theorem norm_2 : (kernelRun0_A.sl.r_33 (F := Ideal) c i arg3 harg3 arg4 harg4 arg5 harg5 arg6 harg6 arg7 harg7 arg8 harg8 x2 x3 x4) =
    normOf (kernelRun0_A.sl.r_2 (F := Ideal) c arg5 harg5 x2) (View.readAt (Elt Ideal) arg6.view (Rect.unit (s := S8192x512) (k0_off19 i) S512x128.size (k0_off19_inb i)).toLoadRect (harg6.unread x3)) (end4 c i arg3 harg3 arg4 harg4 arg5 harg5 arg6 harg6 arg7 harg7 arg8 harg8 x2 x3 x4).2.2.2.2.2.2.1 (end4 c i arg3 harg3 arg4 harg4 arg5 harg5 arg6 harg6 arg7 harg7 arg8 harg8 x2 x3 x4).2.2.2.2.2.2.2.1 := by sl_kernel_rfl

/-- The weighted sum of head 2 as the run states it. -/
theorem sum_2 : (kernelRun0_A.sl.r_34 (F := Ideal) c i arg3 harg3 arg4 harg4 arg5 harg5 arg6 harg6 arg7 harg7 arg8 harg8 x2 x3 x4) =
    sumOf (kernelRun0_A.sl.r_2 (F := Ideal) c arg5 harg5 x2) (View.readAt (Elt Ideal) arg6.view (Rect.unit (s := S8192x512) (k0_off19 i) S512x128.size (k0_off19_inb i)).toLoadRect (harg6.unread x3)) (View.readAt (Elt Ideal) arg7.view (Rect.unit (s := S8192x512) (k0_off19 i) S512x128.size (k0_off19_inb i)).toLoadRect (harg7.unread x4)) (end4 c i arg3 harg3 arg4 harg4 arg5 harg5 arg6 harg6 arg7 harg7 arg8 harg8 x2 x3 x4).2.2.2.2.2.2.1 (end4 c i arg3 harg3 arg4 harg4 arg5 harg5 arg6 harg6 arg7 harg7 arg8 harg8 x2 x3 x4).2.2.2.2.2.2.2.2.1 := by sl_kernel_rfl

/-- Head 2 after the masked block. -/
theorem last_2 (hd : BlockData x2 x3 x4 s v) : ∃ m, HeadSeen (fun r => seenBy (512 * (i 2).val + r.val % 512)) (s 2) (v 2) m
    (kernelRun0_A.sl.r_33 (F := Ideal) c i arg3 harg3 arg4 harg4 arg5 harg5 arg6 harg6 arg7 harg7 arg8 harg8 x2 x3 x4)
    (kernelRun0_A.sl.r_34 (F := Ideal) c i arg3 harg3 arg4 harg4 arg5 harg5 arg6 harg6 arg7 harg7 arg8 harg8 x2 x3 x4) := by
  rw [norm_2, sum_2]
  have hs := ended (c := c) (i := i) (harg3 := harg3) (harg4 := harg4) (harg5 := harg5) (harg6 := harg6) (harg7 := harg7) (harg8 := harg8) hd
  have e := last_step (harg6 := harg6) (harg7 := harg7) 2 (off19 i) (k0_off19_inb i) (rows (c := c) (harg5 := harg5) hd) hs.2.2.1
  exact e

/-- The normaliser of head 3 as the run states it. -/
theorem norm_3 : (kernelRun0_A.sl.r_39 (F := Ideal) c i arg3 harg3 arg4 harg4 arg5 harg5 arg6 harg6 arg7 harg7 arg8 harg8 x2 x3 x4) =
    normOf (kernelRun0_A.sl.r_4 (F := Ideal) c arg5 harg5 x2) (View.readAt (Elt Ideal) arg6.view (Rect.unit (s := S8192x512) (k0_off20 i) S512x128.size (k0_off20_inb i)).toLoadRect (harg6.unread x3)) (end4 c i arg3 harg3 arg4 harg4 arg5 harg5 arg6 harg6 arg7 harg7 arg8 harg8 x2 x3 x4).2.2.2.2.2.2.2.2.2.1 (end4 c i arg3 harg3 arg4 harg4 arg5 harg5 arg6 harg6 arg7 harg7 arg8 harg8 x2 x3 x4).2.2.2.2.2.2.2.2.2.2.1 := by sl_kernel_rfl

/-- The weighted sum of head 3 as the run states it. -/
theorem sum_3 : (kernelRun0_A.sl.r_40 (F := Ideal) c i arg3 harg3 arg4 harg4 arg5 harg5 arg6 harg6 arg7 harg7 arg8 harg8 x2 x3 x4) =
    sumOf (kernelRun0_A.sl.r_4 (F := Ideal) c arg5 harg5 x2) (View.readAt (Elt Ideal) arg6.view (Rect.unit (s := S8192x512) (k0_off20 i) S512x128.size (k0_off20_inb i)).toLoadRect (harg6.unread x3)) (View.readAt (Elt Ideal) arg7.view (Rect.unit (s := S8192x512) (k0_off20 i) S512x128.size (k0_off20_inb i)).toLoadRect (harg7.unread x4)) (end4 c i arg3 harg3 arg4 harg4 arg5 harg5 arg6 harg6 arg7 harg7 arg8 harg8 x2 x3 x4).2.2.2.2.2.2.2.2.2.1 (end4 c i arg3 harg3 arg4 harg4 arg5 harg5 arg6 harg6 arg7 harg7 arg8 harg8 x2 x3 x4).2.2.2.2.2.2.2.2.2.2.2 := by sl_kernel_rfl

/-- Head 3 after the masked block. -/
theorem last_3 (hd : BlockData x2 x3 x4 s v) : ∃ m, HeadSeen (fun r => seenBy (512 * (i 2).val + r.val % 512)) (s 3) (v 3) m
    (kernelRun0_A.sl.r_39 (F := Ideal) c i arg3 harg3 arg4 harg4 arg5 harg5 arg6 harg6 arg7 harg7 arg8 harg8 x2 x3 x4)
    (kernelRun0_A.sl.r_40 (F := Ideal) c i arg3 harg3 arg4 harg4 arg5 harg5 arg6 harg6 arg7 harg7 arg8 harg8 x2 x3 x4) := by
  rw [norm_3, sum_3]
  have hs := ended (c := c) (i := i) (harg3 := harg3) (harg4 := harg4) (harg5 := harg5) (harg6 := harg6) (harg7 := harg7) (harg8 := harg8) hd
  have e := last_step (harg6 := harg6) (harg7 := harg7) 3 (off20 i) (k0_off20_inb i) (rows (c := c) (harg5 := harg5) hd) hs.2.2.2
  exact e

end Cert.Block

end
-- ==== Proof.OutValue.lean ====
/-
  What one grid point leaves in its output block, read at an index: on each of the four heads the difference of the two
  softmax means, scaled, at the head's 128 columns.
-/
module

public import proofs.«01_k».proof.Proof.BlockValue
public import Idealize.ShloMosaic.Lib.Pipeline.ValueKit.Geometry

@[expose] public section

set_option maxRecDepth 16384

noncomputable section

namespace Cert.Block

open Cert.KernelIdeal Cert.KernelIdeal.Gen Idealize.ShloMosaic Idealize.ShloMosaic.TcCoe Idealize.SL.Sem Cert.Softmax Finset

/-- The difference of the two softmax means of a query at position `p`, at its two score rows. -/
def diffMean (p : ℕ) (s₀ s₁ : ℕ → ℝ) (v : Fin 128 → ℕ → ℝ) (lam : EReal) (d : Fin 128) : EReal :=
  (mean (seenBy p) (fun k => Real.exp (s₀ k * Real.log 2)) (v d) : EReal)
    - lam * (mean (seenBy p) (fun k => Real.exp (s₁ k * Real.log 2)) (v d) : EReal)

theorem seenBy_nonempty (p : ℕ) : (seenBy p).Nonempty := ⟨0, by simp [seenBy]⟩

/-- What one head puts at a row and a column. -/
def headOut (n : ℕ) (x0 : Vec Ideal S8x128 .f32) (x1 : Vec Ideal S1x128 .f32) (s : Fin 4 → Fin 1024 → ℕ → ℝ)
    (v : Fin 4 → Fin 128 → ℕ → ℝ) (h : Fin 4) (r : Fin 512) (d : Fin 128) : EReal :=
  scaled (diffMean (512 * n + r.val) (s h ⟨r.val, by omega⟩) (s h ⟨512 + r.val, by omega⟩) (v h) (lamOf x0)) (fun d => x1 (ix2 0 d)) d

/-- A head's store is that. -/
theorem head_value {n : ℕ} {x0 : Vec Ideal S8x128 .f32} {x1 : Vec Ideal S1x128 .f32} {s : Fin 4 → Fin 1024 → ℕ → ℝ}
    {v : Fin 4 → Fin 128 → ℕ → ℝ} {h : Fin 4} {l : FVec Ideal S1024x1 .f32} {a : FVec Ideal S1024x128 .f32}
    (H : ∃ m, HeadSeen (fun r => seenBy (512 * n + r.val % 512)) (s h) (v h) m l a) (r : Fin 512) (d : Fin 128) :
    k0_pay180 l a (k0_pay177 x0) (k0_pay178 x0) x1 (ix2 r d) = headOut n x0 x1 s v h r d := by
  obtain ⟨m, H⟩ := H
  rw [head_eq, headOut]
  congr 1
  funext d'
  rw [diffMean, (H ⟨r.val, by omega⟩ d').quot (seenBy_nonempty _), (H ⟨512 + r.val, by omega⟩ d').quot (seenBy_nonempty _)]
  simp only [Nat.mod_eq_of_lt r.isLt, Nat.add_mod_left]

/-- The block at its own index. -/
def blockOut (n : ℕ) (x0 : Vec Ideal S8x128 .f32) (x1 : Vec Ideal S1x128 .f32) (s : Fin 4 → Fin 1024 → ℕ → ℝ)
    (v : Fin 4 → Fin 128 → ℕ → ℝ) (y : S512x512.Idx) : EReal :=
  headOut n x0 x1 s v ⟨(y 1).val / 128, by have : (y 1).val < 512 := (y 1).isLt; omega⟩ (y 0) ⟨(y 1).val % 128, by omega⟩

/-- A head's columns in the block. -/
theorem blockOut_at (n : ℕ) (x0 : Vec Ideal S8x128 .f32) (x1 : Vec Ideal S1x128 .f32) (s : Fin 4 → Fin 1024 → ℕ → ℝ)
    (v : Fin 4 → Fin 128 → ℕ → ℝ) (h : Fin 4) (o : ℕ) (ho : o = 128 * h.val) (inb : ∀ a, (![0, o] : Fin 2 → ℕ) a + S512x128.size a ≤ S512x512.size a)
    (r : Fin 512) (d : Fin 128) :
    blockOut n x0 x1 s v ((Rect.unit (s := S512x512) ![0, o] S512x128.size inb).emb (ix2 r d)) = headOut n x0 x1 s v h r d := by
  have h4 := h.isLt
  have e : (Rect.unit (s := S512x512) ![0, o] S512x128.size inb).emb (ix2 r d) = ix2 r ⟨o + d.val, by omega⟩ := by
    funext a
    apply Fin.ext
    rw [ValueKit.rect_emb_unit_val]
    fin_cases a
    · exact Nat.zero_add _
    · rfl
  rw [e, blockOut]
  congr 1
  · apply Fin.ext; show (o + d.val) / 128 = h.val; omega
  · apply Fin.ext; show (o + d.val) % 128 = d.val; omega

variable {c : Dev nD} {i : grid0.Coords} {arg3 : Memref sig .tc .vmem S8x128 .f32} {harg3 : arg3.IsWhole} {arg4 : Memref sig .tc .vmem S1x128 .f32} {harg4 : arg4.IsWhole} {arg5 : Memref sig .tc .vmem S512x512 .bf16} {harg5 : arg5.IsWhole} {arg6 : Memref sig .tc .vmem S8192x512 .bf16} {harg6 : arg6.IsWhole} {arg7 : Memref sig .tc .vmem S8192x512 .bf16} {harg7 : arg7.IsWhole} {arg8 : Memref sig .tc .vmem S512x512 .bf16} {harg8 : arg8.IsWhole} {x0 : Vec Ideal S8x128 .f32} {x1 : Vec Ideal S1x128 .f32} {x2 : Vec Ideal S512x512 .bf16} {x3 x4 : Vec Ideal S8192x512 .bf16}

theorem load_weights : (View.readAt (Elt Ideal) arg3.view (Rect.unit (s := S8x128) ![0, 0] S8x128.size inb_S8x128_S8x128_0_0).toLoadRect (harg3.unread x0)) = x0 := by
  rw [View.readAt_eq_ld, harg3.read_unread]
  funext j; idx_vars j; pointwise

theorem load_gain : (View.readAt (Elt Ideal) arg4.view (Rect.unit (s := S1x128) ![0, 0] S1x128.size inb_S1x128_S1x128_0_0).toLoadRect (harg4.unread x1)) = x1 := by
  rw [View.readAt_eq_ld, harg4.read_unread]
  funext j; idx_vars j; pointwise
  rw [Subsingleton.elim j0 0]

/-- The block's stores, the last first. -/
theorem pieces_eq : (kernelRun0_A (F := Ideal) c i arg3 harg3 arg4 harg4 arg5 harg5 arg6 harg6 arg7 harg7 arg8 harg8 x0 x1 x2 x3 x4).1 =
    [⟨Rect.unit (s := S512x512) ![0, 384] S512x128.size inb_S512x512_S512x128_0_384, k0_pay180 (kernelRun0_A.sl.r_39 (F := Ideal) c i arg3 harg3 arg4 harg4 arg5 harg5 arg6 harg6 arg7 harg7 arg8 harg8 x2 x3 x4) (kernelRun0_A.sl.r_40 (F := Ideal) c i arg3 harg3 arg4 harg4 arg5 harg5 arg6 harg6 arg7 harg7 arg8 harg8 x2 x3 x4)
        (k0_pay177 (View.readAt (Elt Ideal) arg3.view (Rect.unit (s := S8x128) ![0, 0] S8x128.size inb_S8x128_S8x128_0_0).toLoadRect (harg3.unread x0))) (k0_pay178 (View.readAt (Elt Ideal) arg3.view (Rect.unit (s := S8x128) ![0, 0] S8x128.size inb_S8x128_S8x128_0_0).toLoadRect (harg3.unread x0))) (View.readAt (Elt Ideal) arg4.view (Rect.unit (s := S1x128) ![0, 0] S1x128.size inb_S1x128_S1x128_0_0).toLoadRect (harg4.unread x1))⟩,
      ⟨Rect.unit (s := S512x512) ![0, 256] S512x128.size inb_S512x512_S512x128_0_256, k0_pay180 (kernelRun0_A.sl.r_33 (F := Ideal) c i arg3 harg3 arg4 harg4 arg5 harg5 arg6 harg6 arg7 harg7 arg8 harg8 x2 x3 x4) (kernelRun0_A.sl.r_34 (F := Ideal) c i arg3 harg3 arg4 harg4 arg5 harg5 arg6 harg6 arg7 harg7 arg8 harg8 x2 x3 x4)
        (k0_pay177 (View.readAt (Elt Ideal) arg3.view (Rect.unit (s := S8x128) ![0, 0] S8x128.size inb_S8x128_S8x128_0_0).toLoadRect (harg3.unread x0))) (k0_pay178 (View.readAt (Elt Ideal) arg3.view (Rect.unit (s := S8x128) ![0, 0] S8x128.size inb_S8x128_S8x128_0_0).toLoadRect (harg3.unread x0))) (View.readAt (Elt Ideal) arg4.view (Rect.unit (s := S1x128) ![0, 0] S1x128.size inb_S1x128_S1x128_0_0).toLoadRect (harg4.unread x1))⟩,
      ⟨Rect.unit (s := S512x512) ![0, 128] S512x128.size inb_S512x512_S512x128_0_128, k0_pay180 (kernelRun0_A.sl.r_27 (F := Ideal) c i arg3 harg3 arg4 harg4 arg5 harg5 arg6 harg6 arg7 harg7 arg8 harg8 x2 x3 x4) (kernelRun0_A.sl.r_28 (F := Ideal) c i arg3 harg3 arg4 harg4 arg5 harg5 arg6 harg6 arg7 harg7 arg8 harg8 x2 x3 x4)
        (k0_pay177 (View.readAt (Elt Ideal) arg3.view (Rect.unit (s := S8x128) ![0, 0] S8x128.size inb_S8x128_S8x128_0_0).toLoadRect (harg3.unread x0))) (k0_pay178 (View.readAt (Elt Ideal) arg3.view (Rect.unit (s := S8x128) ![0, 0] S8x128.size inb_S8x128_S8x128_0_0).toLoadRect (harg3.unread x0))) (View.readAt (Elt Ideal) arg4.view (Rect.unit (s := S1x128) ![0, 0] S1x128.size inb_S1x128_S1x128_0_0).toLoadRect (harg4.unread x1))⟩,
      ⟨Rect.unit (s := S512x512) ![0, 0] S512x128.size inb_S512x512_S512x128_0_0, k0_pay180 (kernelRun0_A.sl.r_21 (F := Ideal) c i arg3 harg3 arg4 harg4 arg5 harg5 arg6 harg6 arg7 harg7 arg8 harg8 x2 x3 x4) (kernelRun0_A.sl.r_22 (F := Ideal) c i arg3 harg3 arg4 harg4 arg5 harg5 arg6 harg6 arg7 harg7 arg8 harg8 x2 x3 x4)
        (k0_pay177 (View.readAt (Elt Ideal) arg3.view (Rect.unit (s := S8x128) ![0, 0] S8x128.size inb_S8x128_S8x128_0_0).toLoadRect (harg3.unread x0))) (k0_pay178 (View.readAt (Elt Ideal) arg3.view (Rect.unit (s := S8x128) ![0, 0] S8x128.size inb_S8x128_S8x128_0_0).toLoadRect (harg3.unread x0))) (View.readAt (Elt Ideal) arg4.view (Rect.unit (s := S1x128) ![0, 0] S1x128.size inb_S1x128_S1x128_0_0).toLoadRect (harg4.unread x1))⟩] := by sl_kernel_rfl

/-- WHAT A GRID POINT LEAVES in its block. -/
theorem block_value {s : Fin 4 → Fin 1024 → ℕ → ℝ} {v : Fin 4 → Fin 128 → ℕ → ℝ} (hd : BlockData x2 x3 x4 s v) (y : S512x512.Idx) :
    out0_A_5 (F := Ideal) c i arg3 harg3 arg4 harg4 arg5 harg5 arg6 harg6 arg7 harg7 arg8 harg8 x0 x1 x2 x3 x4 y
      = blockOut (i 2).val x0 x1 s v y := by
  have hc := cover0_A_5 (F := Ideal) c i arg3 harg3 arg4 harg4 arg5 harg5 arg6 harg6 arg7 harg7 arg8 harg8 x0 x1 x2 x3 x4
  unfold out0_A_5
  rw [View.read_writes_eq_canon _ _ _ hc]
  refine View.canon_apply_of_pieces (blockOut (i 2).val x0 x1 s v) _ ?_ y (hc y)
  rw [pieces_eq, load_weights, load_gain]
  simp only [List.forall_mem_cons, List.not_mem_nil, false_imp_iff, implies_true, and_true]
  refine ⟨fun x => ?_, fun x => ?_, fun x => ?_, fun x => ?_⟩
  · change S512x128.Idx at x
    obtain ⟨r, d, rfl⟩ : ∃ (r : Fin 512) (d : Fin 128), x = ix2 r d := ⟨x 0, x 1, eq_ix2 x⟩
    exact (head_value (last_3 hd) r d).trans (blockOut_at _ _ _ _ _ 3 384 rfl _ r d).symm
  · change S512x128.Idx at x
    obtain ⟨r, d, rfl⟩ : ∃ (r : Fin 512) (d : Fin 128), x = ix2 r d := ⟨x 0, x 1, eq_ix2 x⟩
    exact (head_value (last_2 hd) r d).trans (blockOut_at _ _ _ _ _ 2 256 rfl _ r d).symm
  · change S512x128.Idx at x
    obtain ⟨r, d, rfl⟩ : ∃ (r : Fin 512) (d : Fin 128), x = ix2 r d := ⟨x 0, x 1, eq_ix2 x⟩
    exact (head_value (last_1 hd) r d).trans (blockOut_at _ _ _ _ _ 1 128 rfl _ r d).symm
  · change S512x128.Idx at x
    obtain ⟨r, d, rfl⟩ : ∃ (r : Fin 512) (d : Fin 128), x = ix2 r d := ⟨x 0, x 1, eq_ix2 x⟩
    exact (head_value (last_0 hd) r d).trans (blockOut_at _ _ _ _ _ 0 0 rfl _ r d).symm

end Cert.Block

end
-- ==== Proof.HostValue.lean ====
/-
  What the host lines before the launch leave in the arrays that the launch reads: the scaled queries, the keys, the
  values, the gain and the four rows of weight vectors.
-/
module

public import proofs.«01_k».proof.Proof.HeadValue
public import proofs.«01_k».proof.Proof.Softmax
public import proofs.«01_k».proof.Proof.Gen.KernelIdeal.Frame
public import Idealize.ShloMosaic.Lib.Claim
public import Idealize.ShloMosaic.Lib.StableHlo.ReadAt
public import Idealize.ShloMosaic.Lib.Routing.OpsSet
public import Idealize.ShloMosaic.Lib.Pointwise

@[expose] public section

set_option maxRecDepth 16384

noncomputable section

namespace Cert.Host

open Cert.KernelIdeal Cert.KernelIdeal.Gen Idealize.ShloMosaic Idealize.ShloMosaic.TcCoe Idealize.SL.Sem Finset

variable (m : (ℓ : Loc nD τ sig) → Buf (Elt Ideal) ℓ) (c : Dev nD)

/-- The scale that turns the scores into powers of two: an eighth of the reciprocal of the logarithm of two. -/
def scale : ℝ := 0.125 * (Real.log 2)⁻¹

theorem scale_eq : Ideal.div (Ideal.ofBits FTy.f32 0x3E000000#32) (Ideal.log (Ideal.ofBits FTy.f32 0x40000000#32)) = (scale : EReal) := by
  have e : Ideal.ofBits FTy.f32 0x40000000#32 = ((2 : ℝ) : EReal) := by
    simp [Ideal.ofBits, Ideal.ieee, -EReal.coe_mul]; norm_num
  have e8 : Ideal.ofBits FTy.f32 0x3E000000#32 = ((0.125 : ℝ) : EReal) := by
    simp [Ideal.ofBits, Ideal.ieee, -EReal.coe_mul]; norm_num
  have el : Ideal.log ((2 : ℝ) : EReal) = ((Real.log 2 : ℝ) : EReal) := by
    exact if_neg (by norm_num : ¬ (2 : ℝ) ≤ 0)
  rw [e, e8, el, Softmax.div_coe _ _ (Real.log_pos one_lt_two).ne', scale, div_eq_mul_inv]

/-- The launch finds the queries times the scale. -/
theorem queries (r : Fin 16384) (j : Fin 512) :
    (V m c main_v21 (ix2 r j) : EReal) = @HMul.hMul EReal EReal EReal _ (m (c.tc.loc main_arg0) (ix2 r j)) (scale : EReal) := by
  unfold V
  after_reads_at
  exact congrArg _ scale_eq

/-- The launch finds the keys as they are given. -/
theorem keys (r : Fin 16384) (j : Fin 512) : (V m c main_v22 (ix2 r j) : EReal) = (m (c.tc.loc main_arg1) (ix2 r j) : EReal) := by
  unfold V
  after_reads_at

/-- The launch finds the values as they are given. -/
theorem values (r : Fin 16384) (j : Fin 512) : (V m c main_v23 (ix2 r j) : EReal) = (m (c.tc.loc main_arg2) (ix2 r j) : EReal) := by
  unfold V
  after_reads_at

/-- The launch finds the gain as a row. -/
theorem gain (j : Fin 128) : (V m c main_v24 (ix2 0 j) : EReal) = (m (c.tc.loc main_arg7) (ix1 j) : EReal) := by
  unfold V
  after_reads_at

/-- A vector of 64 set into row `w` of a table leaves the vector on that row's first 64 lanes and the table elsewhere. -/
theorem set_row (x : S8x128.Idx → EReal) (idx : IVec S2 32) (u : S64.Idx → EReal) (w : ℕ) (h0 : (idx (ix1 0)).toInt = w)
    (h1 : (idx (ix1 1)).toInt = 0) (r : Fin 8) (l : Fin 128) :
    Host.scatter scatter_S8x128_S2_S64_0_0_01_0 (fun _ b => b) x idx u (ix2 r l)
      = if h : r.val = w ∧ l.val < 64 then u (ix1 ⟨l.val, h.2⟩) else x (ix2 r l) := by
  have lands (k : Fin 64) : scatter_S8x128_S2_S64_0_0_01_0.resultIdx? (ix1 k) idx = some (ix2 r l) ↔ (w = r.val ∧ k.val = l.val) := by
    have s0 : scatter_S8x128_S2_S64_0_0_01_0.start (ix1 k) idx 0 = (idx (ix1 0)).toInt := by
      unfold ScatterDims.start
      rw [dif_pos (by decide)]
      congr 2
      funext a
      match a with
      | ⟨0, _⟩ => rfl
    have s1 : scatter_S8x128_S2_S64_0_0_01_0.start (ix1 k) idx 1 = (idx (ix1 1)).toInt := by
      unfold ScatterDims.start
      rw [dif_pos (by decide)]
      congr 2
      funext a
      match a with
      | ⟨0, _⟩ => rfl
    have w0 : scatter_S8x128_S2_S64_0_0_01_0.window (ix1 k) 0 = 0 := rfl
    have w1 : scatter_S8x128_S2_S64_0_0_01_0.window (ix1 k) 1 = k.val := rfl
    have g : scatter_S8x128_S2_S64_0_0_01_0.resultIdx? (ix1 k) idx = some (ix2 r l) ↔ _ := Routing.resultIdx?_ix2 scatter_S8x128_S2_S64_0_0_01_0 (ix1 k) idx r l
    rw [s0, s1, w0, w1, h0, h1] at g
    rw [g]
    omega
  split
  · next h =>
    refine Routing.scatter_set_hit _ _ _ _ _ _ (fun k hk => ?_) (ix1 ⟨l.val, h.2⟩) ((lands _).2 ⟨h.1.symm, rfl⟩)
    obtain ⟨k, rfl⟩ : ∃ a, k = ix1 a := ⟨k 0, eq_ix1 k⟩
    have := ((lands k).1 hk).2
    congr 2
    exact Fin.ext this
  · next h =>
    refine Routing.scatter_set_miss _ _ _ _ _ fun k hk => ?_
    obtain ⟨k, rfl⟩ : ∃ a, k = ix1 a := ⟨k 0, eq_ix1 k⟩
    have := (lands k).1 hk
    exact h ⟨this.1.symm, by omega⟩

/-- Two words joined into a table of two are read back one by one. -/
theorem pair_at (a b : IVec S1 32) : concatenate S2 0 [⟨S1, a⟩, ⟨S1, b⟩] concatenates_S1_S1_S2_d0 (ix1 0) = a (ix1 0)
    ∧ concatenate S2 0 [⟨S1, a⟩, ⟨S1, b⟩] concatenates_S1_S1_S2_d0 (ix1 1) = b (ix1 0) := by
  constructor <;> pointwise

/-- The launch finds the four weight vectors on the first four rows of a table, on each row's first 64 lanes, the rest zero. -/
theorem table (r : Fin 8) (l : Fin 128) : (V m c main_v16 (ix2 r l) : EReal)
    = if h : l.val < 64 then
        if r.val = 3 then m (c.tc.loc main_arg6) (ix1 ⟨l.val, h⟩) else if r.val = 2 then m (c.tc.loc main_arg5) (ix1 ⟨l.val, h⟩)
        else if r.val = 1 then m (c.tc.loc main_arg4) (ix1 ⟨l.val, h⟩) else if r.val = 0 then m (c.tc.loc main_arg3) (ix1 ⟨l.val, h⟩) else (0 : EReal)
      else (0 : EReal) := by
  entry_read
  rw [set_row _ _ _ 3 (by rw [(pair_at _ _).1]; rfl) (by rw [(pair_at _ _).2]; rfl), set_row _ _ _ 2 (by rw [(pair_at _ _).1]; rfl) (by rw [(pair_at _ _).2]; rfl),
    set_row _ _ _ 1 (by rw [(pair_at _ _).1]; rfl) (by rw [(pair_at _ _).2]; rfl), set_row _ _ _ 0 (by rw [(pair_at _ _).1]; rfl) (by rw [(pair_at _ _).2]; rfl)]
  by_cases h : l.val < 64
  · simp only [h, and_true, dif_pos, dite_true]
    split_ifs <;> first | rfl | pointwise
  · simp only [h, and_false, dif_neg, dite_false, not_false_eq_true]
    pointwise

end Cert.Host

end
-- ==== Proof.Spec.lean ====
/-
  The differential attention as one formula over its arguments: the shape in which the kernel's array and the
  reference's array are both read.
-/
module

public import proofs.«01_k».proof.Proof.OutValue
public import proofs.«01_k».proof.Proof.HostValue

@[expose] public section

set_option maxRecDepth 16384

noncomputable section

namespace Cert.Spec

open Idealize.ShloMosaic Cert.Softmax Cert.Block Finset

/-- A rows-by-columns array of extended reals. -/
abbrev Rows : Type := (⟨2, ![16384, 512]⟩ : Shape).Idx → EReal

/-- A vector of 64 extended reals. -/
abbrev Lanes : Type := (⟨1, ![64]⟩ : Shape).Idx → EReal

/-- An array that holds reals alone. -/
def Finite {s : Shape} (x : s.Idx → EReal) : Prop := ∀ i, x i ≠ ⊤ ∧ x i ≠ ⊥

/-- The real at a row and a column, zero outside. -/
def entry (x : Rows) (r c : ℕ) : ℝ := if h : r < 16384 ∧ c < 512 then (x (ix2 ⟨r, h.1⟩ ⟨c, h.2⟩)).toReal else 0

/-- An array of reals at a row and a column. -/
theorem entry_coe {x : Rows} (hx : Finite x) (r c : ℕ) (hr : r < 16384) (hc : c < 512) : x (ix2 ⟨r, hr⟩ ⟨c, hc⟩) = (entry x r c : EReal) := by
  rw [entry, dif_pos ⟨hr, hc⟩, EReal.coe_toReal (hx _).1 (hx _).2]

/-- The inner product of query `p` and key `n` of sequence `b`, in half `e` of head `h`. -/
def score (q k : Rows) (b h e p n : ℕ) : ℝ :=
  ∑ j : Fin 64, entry q (b * 8192 + p) (h * 128 + e * 64 + j.val) * entry k (b * 8192 + n) (h * 128 + e * 64 + j.val)

/-- The weight of the second softmax. -/
def lam (a b c d : Lanes) : EReal :=
  Ideal.exp (∑ j : Fin 64, a (ix1 j) * b (ix1 j)) - Ideal.exp (∑ j : Fin 64, c (ix1 j) * d (ix1 j)) + Ideal.ofBits .f32 0x3E4CCCCD#32

/-- The attention at a row and a column. -/
def result (q k v : Rows) (a b c d : Lanes) (g : (⟨1, ![128]⟩ : Shape).Idx → EReal) (r : Fin 16384) (j : Fin 512) : EReal :=
  scaled (diffMean (r.val % 8192) (fun n => score q k (r.val / 8192) (j.val / 128) 0 (r.val % 8192) n * Host.scale)
      (fun n => score q k (r.val / 8192) (j.val / 128) 1 (r.val % 8192) n * Host.scale)
      (fun d n => entry v (r.val / 8192 * 8192 + n) (j.val / 128 * 128 + d.val)) (lam a b c d))
    (fun d => g (ix1 d)) ⟨j.val % 128, Nat.mod_lt _ (by decide)⟩

/-- A sum of products of reals is a real. -/
theorem dot_real {a b : Lanes} (ha : Finite a) (hb : Finite b) : ∃ R : ℝ, ∑ j : Fin 64, a (ix1 j) * b (ix1 j) = (R : EReal) :=
  ⟨∑ j : Fin 64, (a (ix1 j)).toReal * (b (ix1 j)).toReal, by
    rw [coe_sum]
    refine sum_congr rfl fun j _ => ?_
    rw [EReal.coe_mul, EReal.coe_toReal (ha _).1 (ha _).2, EReal.coe_toReal (hb _).1 (hb _).2]⟩

/-- The second softmax's weight is a real where the four vectors are. -/
theorem lam_real {a b c d : Lanes} (ha : Finite a) (hb : Finite b) (hc : Finite c) (hd : Finite d) : ∃ R : ℝ, lam a b c d = (R : EReal) := by
  obtain ⟨R, hR⟩ := dot_real ha hb
  obtain ⟨S, hS⟩ := dot_real hc hd
  have e : Ideal.ofBits FTy.f32 0x3E4CCCCD#32 = ((13421773 / 67108864 : ℝ) : EReal) := by
    simp [Ideal.ofBits, Ideal.ieee, -EReal.coe_mul]; norm_num
  exact ⟨Real.exp R - Real.exp S + 13421773 / 67108864, by rw [lam, hR, hS, e, exp_coe, exp_coe, EReal.coe_add, EReal.coe_sub]⟩

end Cert.Spec

end
-- ==== Proof.KernelValue.lean ====
/-
  The kernel's result array: the blocks that the grid's points read and write back, put together over the whole array.
-/
module

public import proofs.«01_k».proof.Proof.Spec
public import proofs.«01_k».proof.Proof.Gen.KernelIdeal.Value

@[expose] public section

set_option maxRecDepth 16384

noncomputable section

namespace Cert.Whole

open Cert.KernelIdeal Cert.KernelIdeal.Gen Idealize.ShloMosaic Idealize.ShloMosaic.TcCoe Idealize.SL.Sem Cert.Spec Cert.Block Cert.Softmax Finset
open Idealize.ShloMosaic.Pipeline (Dat)

variable (m : (ℓ : Loc nD τ sig) → Buf (Elt Ideal) ℓ) (c : Dev nD)

/-- The blocks each grid point takes. -/
theorem index_eq (t : Fin cfg0.N) : (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val / 16 ∧ win0_3.index t 1 = 0)
    ∧ (win0_4.index t 0 = t.val / 16 ∧ win0_4.index t 1 = 0) ∧ (win0_5.index t 0 = t.val ∧ win0_5.index t 1 = 0)
    ∧ (grid0.coords t 2).val = t.val % 16 :=
  (by decide +kernel : ∀ t : Fin grid0.N, (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val / 16 ∧ win0_3.index t 1 = 0)
    ∧ (win0_4.index t 0 = t.val / 16 ∧ win0_4.index t 1 = 0) ∧ (win0_5.index t 0 = t.val ∧ win0_5.index t 1 = 0)
    ∧ (grid0.coords t 2).val = t.val % 16) t

/-- There are 32 grid points. -/
theorem point_lt (t : Fin cfg0.N) : t.val < 32 := by have h : cfg0.N = 32 := N_0; have := t.isLt; omega

/-- Every point reads the whole table of weight vectors. -/
theorem read_table (t : Fin cfg0.N) (r : Fin 8) (l : Fin 128) : (iblk m c 0 t : Vec Ideal S8x128 .f32) (ix2 r l) = V m c main_v16 (ix2 r l) := by
  unfold iblk
  rw [View.read_apply]
  show V m c main_v16 _ = V m c main_v16 _
  congr 1
  funext a
  apply Fin.ext
  match a with
  | ⟨0, _⟩ => show win0_0.index t 0 * 8 + 1 * r.val = r.val; rw [(index_eq t).1.1]; omega
  | ⟨1, _⟩ => show win0_0.index t 1 * 128 + 1 * l.val = l.val; rw [(index_eq t).1.2]; omega

/-- Every point reads the whole gain. -/
theorem read_gain (t : Fin cfg0.N) (l : Fin 128) : (iblk m c 1 t : Vec Ideal S1x128 .f32) (ix2 0 l) = V m c main_v24 (ix2 0 l) := by
  unfold iblk
  rw [View.read_apply]
  show V m c main_v24 _ = V m c main_v24 _
  congr 1
  funext a
  apply Fin.ext
  match a with
  | ⟨0, _⟩ => show win0_1.index t 0 * 1 + 1 * 0 = 0; rw [(index_eq t).2.1.1]
  | ⟨1, _⟩ => show win0_1.index t 1 * 128 + 1 * l.val = l.val; rw [(index_eq t).2.1.2]; omega

/-- A point reads 512 rows of queries. -/
theorem read_queries (t : Fin cfg0.N) (r l : Fin 512) :
    (iblk m c 2 t : Vec Ideal S512x512 .bf16) (ix2 r l) = V m c main_v21 (ix2 ⟨t.val * 512 + r.val, by have := point_lt t; omega⟩ l) := by
  unfold iblk
  rw [View.read_apply]
  show V m c main_v21 _ = V m c main_v21 _
  congr 1
  funext a
  apply Fin.ext
  match a with
  | ⟨0, _⟩ => show win0_2.index t 0 * 512 + 1 * r.val = t.val * 512 + r.val; rw [(index_eq t).2.2.1.1]; omega
  | ⟨1, _⟩ => show win0_2.index t 1 * 512 + 1 * l.val = l.val; rw [(index_eq t).2.2.1.2]; omega

/-- A point reads its sequence's keys. -/
theorem read_keys (t : Fin cfg0.N) (n : Fin 8192) (l : Fin 512) :
    (iblk m c 3 t : Vec Ideal S8192x512 .bf16) (ix2 n l) = V m c main_v22 (ix2 ⟨t.val / 16 * 8192 + n.val, by have := point_lt t; omega⟩ l) := by
  unfold iblk
  rw [View.read_apply]
  show V m c main_v22 _ = V m c main_v22 _
  congr 1
  funext a
  apply Fin.ext
  match a with
  | ⟨0, _⟩ => show win0_3.index t 0 * 8192 + 1 * n.val = t.val / 16 * 8192 + n.val; rw [(index_eq t).2.2.2.1.1]; omega
  | ⟨1, _⟩ => show win0_3.index t 1 * 512 + 1 * l.val = l.val; rw [(index_eq t).2.2.2.1.2]; omega

/-- A point reads its sequence's values. -/
theorem read_values (t : Fin cfg0.N) (n : Fin 8192) (l : Fin 512) :
    (iblk m c 4 t : Vec Ideal S8192x512 .bf16) (ix2 n l) = V m c main_v23 (ix2 ⟨t.val / 16 * 8192 + n.val, by have := point_lt t; omega⟩ l) := by
  unfold iblk
  rw [View.read_apply]
  show V m c main_v23 _ = V m c main_v23 _
  congr 1
  funext a
  apply Fin.ext
  match a with
  | ⟨0, _⟩ => show win0_4.index t 0 * 8192 + 1 * n.val = t.val / 16 * 8192 + n.val; rw [(index_eq t).2.2.2.2.1.1]; omega
  | ⟨1, _⟩ => show win0_4.index t 1 * 512 + 1 * l.val = l.val; rw [(index_eq t).2.2.2.2.1.2]; omega

/-- A sum over the lanes of one half. -/
theorem half_sum (f : ℕ → ℝ) (e : ℕ) (he : e < 2) : (∑ j : Fin 128, if j.val / 64 = e then f j.val else 0) = ∑ j : Fin 64, f (e * 64 + j.val) := by
  have h := Fin.sum_univ_add (a := 64) (b := 64) fun j : Fin (64 + 64) => if j.val / 64 = e then f j.val else 0
  refine h.trans ?_
  have e0 (j : Fin 64) : j.val / 64 = 0 := by omega
  have e1 (j : Fin 64) : (64 + j.val) / 64 = 1 := by omega
  have e2 (j : Fin 64) : (j.val + 64) / 64 = 1 := by omega
  interval_cases e <;> simp [e0, e1, e2, Nat.add_comm]

/-- The sum over a table's rows is the sum over the vectors set into them. -/
theorem row_sum (a b : Lanes) : (∑ j : Fin 128, (if h : j.val < 64 then a (ix1 ⟨j.val, h⟩) else 0) * (if h : j.val < 64 then b (ix1 ⟨j.val, h⟩) else 0))
    = ∑ j : Fin 64, a (ix1 j) * b (ix1 j) := by
  have h := Fin.sum_univ_add (a := 64) (b := 64) fun j : Fin (64 + 64) =>
    (if h : j.val < 64 then a (ix1 ⟨j.val, h⟩) else 0) * (if h : j.val < 64 then b (ix1 ⟨j.val, h⟩) else 0)
  refine h.trans ?_
  simp

/-- The weight of the second softmax, from a table whose first four rows are the four vectors. -/
theorem lam_of_rows (L : FVec Ideal S8x128 .f32) (a b c d : Lanes)
    (h0 : ∀ l : Fin 128, L (ix2 0 l) = if h : l.val < 64 then a (ix1 ⟨l.val, h⟩) else 0)
    (h1 : ∀ l : Fin 128, L (ix2 1 l) = if h : l.val < 64 then b (ix1 ⟨l.val, h⟩) else 0)
    (h2 : ∀ l : Fin 128, L (ix2 2 l) = if h : l.val < 64 then c (ix1 ⟨l.val, h⟩) else 0)
    (h3 : ∀ l : Fin 128, L (ix2 3 l) = if h : l.val < 64 then d (ix1 ⟨l.val, h⟩) else 0) : lamOf L = lam a b c d := by
  rw [lamOf, lam, ← row_sum, ← row_sum]
  simp only [h0, h1, h2, h3]

/-- The weight of the second softmax, as a point finds it. -/
theorem lam_eq (t : Fin cfg0.N) : lamOf (iblk m c 0 t) = lam (m (c.tc.loc main_arg3)) (m (c.tc.loc main_arg4)) (m (c.tc.loc main_arg5)) (m (c.tc.loc main_arg6)) :=
  lam_of_rows (iblk m c 0 t) _ _ _ _
    (fun l => (read_table m c t 0 l).trans ((Host.table m c 0 l).trans (by split <;> rfl)))
    (fun l => (read_table m c t 1 l).trans ((Host.table m c 1 l).trans (by split <;> rfl)))
    (fun l => (read_table m c t 2 l).trans ((Host.table m c 2 l).trans (by split <;> rfl)))
    (fun l => (read_table m c t 3 l).trans ((Host.table m c 3 l).trans (by split <;> rfl)))

variable (hq : Finite (m (c.tc.loc main_arg0) : Rows)) (hk : Finite (m (c.tc.loc main_arg1) : Rows)) (hv : Finite (m (c.tc.loc main_arg2) : Rows))

include hq hk hv in
/-- What a point's blocks hold, in reals. -/
theorem block_data (t : Fin cfg0.N) : BlockData (iblk m c 2 t) (iblk m c 3 t) (iblk m c 4 t)
    (fun h r n => score (m (c.tc.loc main_arg0)) (m (c.tc.loc main_arg1)) (t.val / 16) h.val (r.val / 512) (512 * (t.val % 16) + r.val % 512) n * Host.scale)
    (fun h d n => entry (m (c.tc.loc main_arg2)) (t.val / 16 * 8192 + n) (h.val * 128 + d.val)) where
  score h r n hn := by
    have ht := point_lt t
    have E (j : Fin 128) : stack (iblk m c 2 t) h r j * ((iblk m c 3 t : Vec Ideal S8192x512 .bf16) (ix2 ⟨n, hn⟩ ⟨128 * h.val + j.val, by omega⟩) : EReal)
        = ((if j.val / 64 = r.val / 512 then entry (m (c.tc.loc main_arg0)) (t.val / 16 * 8192 + (512 * (t.val % 16) + r.val % 512)) (h.val * 128 + j.val) * Host.scale
            * entry (m (c.tc.loc main_arg1)) (t.val / 16 * 8192 + n) (h.val * 128 + j.val) else 0 : ℝ) : EReal) := by
      rw [stack, (read_keys m c t _ _).trans (Host.keys m c _ _), entry_coe hk]
      split
      · rw [(read_queries m c t _ _).trans (Host.queries m c _ _), entry_coe hq, ← EReal.coe_mul, ← EReal.coe_mul,
          show t.val * 512 + r.val % 512 = t.val / 16 * 8192 + (512 * (t.val % 16) + r.val % 512) by omega, Nat.mul_comm 128]
      · exact zero_mul _
    rw [sum_congr rfl fun j _ => E j, ← coe_sum,
      half_sum (fun j => entry (m (c.tc.loc main_arg0)) (t.val / 16 * 8192 + (512 * (t.val % 16) + r.val % 512)) (h.val * 128 + j) * Host.scale
            * entry (m (c.tc.loc main_arg1)) (t.val / 16 * 8192 + n) (h.val * 128 + j)) (r.val / 512) (by omega), Spec.score, sum_mul]
    congr 1
    refine sum_congr rfl fun j _ => ?_
    rw [Nat.add_assoc]
    ring
  value h d n hn := by
    rw [(read_values m c t _ _).trans (Host.values m c _ _), entry_coe hv, Nat.mul_comm 128]

/-- The result array, as the attention at every row and column. -/
def whole : Buf (Elt Ideal) ((c.tc : Thread nD τ).loc main_v25) := fun y : S16384x512.Idx =>
  result (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (y 0) (y 1)

include hq hk hv in
/-- What a point writes back is its block of that array. -/
theorem flushed_eq (t : Fin cfg0.N) : (dats m 0 c).flushed 5 t = ((cfg0.win 5).blk t).view.read (Elt Ideal) (whole m c) := by
  have ht := point_lt t
  rw [Value.flushed5_A]
  funext y
  change S512x512.Idx at y
  obtain ⟨r, j, rfl⟩ : ∃ (r j : Fin 512), y = ix2 r j := ⟨y 0, y 1, eq_ix2 y⟩
  rw [View.read_apply]
  refine (block_value (block_data m c hq hk hv t) (ix2 r j)).trans ?_
  have e : ((cfg0.win 5).blk t).view.emb (ix2 r j) = (ix2 ⟨t.val * 512 + r.val, by omega⟩ j : S16384x512.Idx) := by
    funext a
    apply Fin.ext
    match a with
    | ⟨0, _⟩ => show win0_5.index t 0 * 512 + 1 * r.val = t.val * 512 + r.val; rw [(index_eq t).2.2.2.2.2.1.1]; omega
    | ⟨1, _⟩ => show win0_5.index t 1 * 512 + 1 * j.val = j.val; rw [(index_eq t).2.2.2.2.2.1.2]; omega
  rw [e]
  show headOut _ _ _ _ _ ⟨j.val / 128, _⟩ r ⟨j.val % 128, _⟩ = result _ _ _ _ _ _ _ _ ⟨t.val * 512 + r.val, _⟩ j
  have e1 : (t.val * 512 + r.val) / 8192 = t.val / 16 := by omega
  have e2 : (t.val * 512 + r.val) % 8192 = 512 * (t.val % 16) + r.val := by omega
  have e3 : r.val / 512 = 0 := by omega
  have e4 : r.val % 512 = r.val := by omega
  have e5 : (512 + r.val) / 512 = 1 := by omega
  have e6 : (512 + r.val) % 512 = r.val := by omega
  rw [headOut, result, lam_eq, (index_eq t).2.2.2.2.2.2]
  simp only [e1, e2, e3, e4, e5, e6]
  congr 1
  funext d
  exact (read_gain m c t d).trans (Host.gain m c d)

include hq hk hv in
/-- So the array after the run is the attention. -/
theorem final : (dats m 0 c).arrAt 5 cfg0.N = whole m c :=
  (dats m 0 c).arrAt_eq_of_cover 5 (whole m c) (fun t _ => flushed_eq m c hq hk hv t) fun i => by
    change S16384x512.Idx at i
    have h0 : (i 0).val < 16384 := (i 0).isLt
    have h1 : (i 1).val < 512 := (i 1).isLt
    have hN : cfg0.N = 32 := N_0
    refine ⟨⟨(i 0).val / 512, by omega⟩, flush0_5 _, ?_⟩
    generalize hT : (⟨(i 0).val / 512, by omega⟩ : Fin cfg0.N) = t
    have hv : t.val = (i 0).val / 512 := by rw [← hT]
    show i ∈ ((View.whole main_v25).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [(index_eq t).2.2.2.2.2.1.1]; omega
    | ⟨1, _⟩ =>
      show win0_5.index t 1 * 512 ≤ (i 1).val ∧ (i 1).val < win0_5.index t 1 * 512 + 512
      rw [(index_eq t).2.2.2.2.2.1.2]; omega

end Cert.Whole

end
-- ==== Proof.PlainTerm.lean ====
/-
  The reference cut into named pieces: the masked scores, the weights of a softmax, the weighted values and the
  normalised difference, and the pieces that read at an element by their operations alone.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Plain

open Cert.ReferenceIdeal Cert.ReferenceIdeal.Gen Idealize.ShloMosaic Idealize.ShloMosaic.TcCoe Idealize.SL.Sem Finset

/-- The block of 64 positions that each position lies in, as words. -/
def chunk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- The scores of every query against every key, an eighth of the inner product, with −∞ where the key's block comes later. -/
def masked (q k : FVec Ideal S16384x512 .f32) : FVec Ideal S2x4x2x8192x8192 .f32 :=
  select (broadcastInDim S2x4x2x8192x8192 ![3, 4] bcast_S8192x8192_S2x4x2x8192x8192_3_4 (cmpi .sle (broadcastInDim S8192x8192 ![0, 1] bcast_S1x8192_S8192x8192_0_1 (broadcastInDim S1x8192 ![1] bcast_S8192_S1x8192_1 chunk)) (broadcastInDim S8192x8192 ![0, 1] bcast_S8192x1_S8192x8192_0_1 (broadcastInDim S8192x1 ![0] bcast_S8192_S8192x1_0 chunk)))) (mulf (Host.dotGeneral dot_S2x4x2x8192x64_S2x4x2x8192x64_S2x4x2x8192x8192_4_4_3_3_012_012 none (transpose S2x4x2x8192x64 [0, 2, 3, 1, 4] (shapeCast _ q shapeCasts_S16384x512_S2x8192x4x2x64) transposes_S2x8192x4x2x64_S2x4x2x8192x64_0_2_3_1_4) (transpose S2x4x2x8192x64 [0, 2, 3, 1, 4] (shapeCast _ k shapeCasts_S16384x512_S2x8192x4x2x64) transposes_S2x8192x4x2x64_S2x4x2x8192x64_0_2_3_1_4)) (broadcastInDim S2x4x2x8192x8192 ![] bcast_S_S2x4x2x8192x8192 (constant S_ .f32 0x3E000000#32))) (broadcastInDim S2x4x2x8192x8192 ![] bcast_S_S2x4x2x8192x8192 (id (constant S_ .f32 0xFF800000#32)))

/-- The largest score of each query. -/
def tops (x : FVec Ideal S2x4x2x8192x8192 .f32) : FVec Ideal S2x4x2x8192 .f32 :=
  maximumf (broadcastInDim S2x4x2x8192 ![] bcast_S_S2x4x2x8192 (constant S_ .f32 0xFF800000#32)) (Host.reduce FloatOps.maximumf x (constant S_ .f32 0xFF800000#32) reducesTo_S2x4x2x8192x8192_S2x4x2x8192_d4 h_S_)

/-- The exponentials of the scores, less the largest one. -/
def raised (x : FVec Ideal S2x4x2x8192x8192 .f32) : FVec Ideal S2x4x2x8192x8192 .f32 :=
  Host.exp (subf x (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (tops x))))

/-- The weights of the softmax: each exponential over their sum. -/
def weights (x : FVec Ideal S2x4x2x8192x8192 .f32) : FVec Ideal S2x4x2x8192x8192 .f32 :=
  Host.divf (raised x) (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (Host.reduceAdd (raised x) (constant S_ .f32 0x00000000#32) reducesTo_S2x4x2x8192x8192_S2x4x2x8192_d4 h_S_)))

/-- The weight of the second softmax. -/
def mix (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The values weighted by the difference of the two softmaxes. -/
def outs (w : FVec Ideal S2x4x2x8192x8192 .f32) (lam : FVec Ideal S_ .f32) (v : FVec Ideal S16384x512 .f32) : FVec Ideal S2x4x8192x128 .f32 :=
  Host.dotGeneral dot_S2x4x8192x8192_S2x4x8192x128_S2x4x8192x128_3_2_2_3_01_01 none (subf (shapeCast _ (extractStridedSlice S2x4x1x8192x8192 ![0, 0, 0, 0, 0] w slices_S2x4x2x8192x8192_S2x4x1x8192x8192_0_0_0_0_0) shapeCasts_S2x4x1x8192x8192_S2x4x8192x8192) (mulf (broadcastInDim S2x4x8192x8192 ![] bcast_S_S2x4x8192x8192 lam) (shapeCast _ (extractStridedSlice S2x4x1x8192x8192 ![0, 0, 1, 0, 0] w slices_S2x4x2x8192x8192_S2x4x1x8192x8192_0_0_1_0_0) shapeCasts_S2x4x1x8192x8192_S2x4x8192x8192))) (transpose S2x4x8192x128 [0, 2, 1, 3] (shapeCast _ v shapeCasts_S16384x512_S2x8192x4x128) transposes_S2x8192x4x128_S2x4x8192x128_0_2_1_3)

/-- The normalised result, laid out as rows. -/
def normed (o : FVec Ideal S2x4x8192x128 .f32) (g : FVec Ideal S128 .f32) : FVec Ideal S16384x512 .bf16 :=
  truncf .bf16 (shapeCast _ (transpose S2x8192x4x128 [0, 2, 1, 3] (mulf (mulf (mulf o (broadcastInDim S2x4x8192x128 ![0, 1, 2, 3] bcast_S2x4x8192x1_S2x4x8192x128_0_1_2_3 (Host.rsqrt (addf (Host.divf (broadcastInDim S2x4x8192x1 ![0, 1, 2] bcast_S2x4x8192_S2x4x8192x1_0_1_2 (Host.reduceAdd (mulf o o) (constant S_ .f32 0x00000000#32) reducesTo_S2x4x8192x128_S2x4x8192_d3 h_S_)) (broadcastInDim S2x4x8192x1 ![] bcast_S_S2x4x8192x1 (constant S_ .f32 0x43000000#32))) (broadcastInDim S2x4x8192x1 ![] bcast_S_S2x4x8192x1 (constant S_ .f32 0x358637BD#32)))))) (broadcastInDim S2x4x8192x128 ![0, 1, 2, 3] bcast_S1x1x1x128_S2x4x8192x128_0_1_2_3 (broadcastInDim S1x1x1x128 ![3] bcast_S128_S1x1x1x128_3 g))) (broadcastInDim S2x4x8192x128 ![] bcast_S_S2x4x8192x128 (constant S_ .f32 0x3F4CCCCD#32))) transposes_S2x4x8192x128_S2x8192x4x128_0_2_1_3) shapeCasts_S2x8192x4x128_S16384x512) bitsLt_bf16_f32

variable (m : (ℓ : Loc nD τ sig) → Buf (Elt Ideal) ℓ) (c : Dev nD)

/-- The reference's result in these terms. -/
theorem result_eq : Value.res_main_v61 (F := Ideal) m c
    = normed (outs (weights (masked (m (c.tc.loc main_arg0)) (m (c.tc.loc main_arg1))))
        (mix (m (c.tc.loc main_arg3)) (m (c.tc.loc main_arg4)) (m (c.tc.loc main_arg5)) (m (c.tc.loc main_arg6))) (m (c.tc.loc main_arg2)))
        (m (c.tc.loc main_arg7)) := by
  unfold Value.res_main_v61 normed outs mix weights raised tops masked chunk
  rfl

/-- The block of 64 that a position lies in. -/
theorem chunk_at (p : Fin 8192) : chunk (ix1 p) = BitVec.ofNat 32 (p.val / 64) := by
  have key : ∀ (a : Fin 128) (b : Fin 64), Scalar.select
      (IntOp.andi
        (IntOp.cmpi CmpIPredicate.ne
          (if BitVec.ofNat 32 (64 * a.val + b.val) = 0 then 0 else if (BitVec.ofNat 32 (64 * a.val + b.val)).msb = true then -1 else 1 : BitVec 32)
          (if (64#32) = 0 then 0 else if (64#32).msb = true then -1 else 1 : BitVec 32))
        (IntOp.cmpi CmpIPredicate.ne (IntOp.remsi ArithUnit.host (BitVec.ofNat 32 (64 * a.val + b.val)) 64#32) 0#32))
      (IntOp.subi (IntOp.divsi ArithUnit.host (BitVec.ofNat 32 (64 * a.val + b.val)) 64#32) 1#32)
      (IntOp.divsi ArithUnit.host (BitVec.ofNat 32 (64 * a.val + b.val)) 64#32) = BitVec.ofNat 32 a.val := by
    decide +kernel
  have h := key ⟨p.val / 64, by omega⟩ ⟨p.val % 64, by omega⟩
  simp only [Nat.div_add_mod] at h
  rw [← h]
  pointwise [chunk]
  rfl

/-- A block comes no later than another as their numbers say. -/
theorem sle_at (a b : ℕ) (ha : a < 128) (hb : b < 128) :
    IntOp.cmpi CmpIPredicate.sle (BitVec.ofNat 32 a) (BitVec.ofNat 32 b) = if a ≤ b then 1#1 else 0#1 :=
  (by decide +kernel : ∀ a b : Fin 128, IntOp.cmpi CmpIPredicate.sle (BitVec.ofNat 32 a.val) (BitVec.ofNat 32 b.val) = if a.val ≤ b.val then 1#1 else 0#1)
    ⟨a, ha⟩ ⟨b, hb⟩

/-- A weight as a quotient of exponentials. -/
theorem weights_at (x : FVec Ideal S2x4x2x8192x8192 .f32) (b : Fin 2) (h : Fin 4) (e : Fin 2) (p n : Fin 8192) :
    weights x (ix5 b h e p n) = Ideal.div (Ideal.exp (@HSub.hSub EReal EReal EReal _ (x (ix5 b h e p n)) (tops x (ix4 b h e p))))
      (∑ j : Fin 8192, Ideal.exp (@HSub.hSub EReal EReal EReal _ (x (ix5 b h e p j)) (tops x (ix4 b h e p)))) := by
  pointwise [weights, raised]

/-- The weighted values. -/
theorem outs_at (w : FVec Ideal S2x4x2x8192x8192 .f32) (lam : FVec Ideal S_ .f32) (v : FVec Ideal S16384x512 .f32) (b : Fin 2) (h : Fin 4) (p : Fin 8192)
    (d : Fin 128) : outs w lam v (ix4 b h p d) = ∑ n : Fin 8192, ((w (ix5 b h 0 p n) : EReal) - (lam ix0 : EReal) * (w (ix5 b h 1 p n) : EReal))
      * (v (ix2 ⟨b.val * 8192 + n.val, by omega⟩ ⟨h.val * 128 + d.val, by omega⟩) : EReal) := by
  pointwise [outs]

end Cert.Plain

end
-- ==== Proof.PlainValue.lean ====
/-
  The reference read at an element: the masked scores, the weights of a softmax, the weighted values and the
  normalised difference, each as a formula over the queries, keys and values.
-/
module

public import proofs.«01_k».proof.Proof.PlainTerm
public import proofs.«01_k».proof.Proof.Spec
public import Idealize.ShloMosaic.Lib.Pointwise

@[expose] public section

set_option maxRecDepth 16384

noncomputable section

namespace Cert.Plain

open Cert.ReferenceIdeal Cert.ReferenceIdeal.Gen Idealize.ShloMosaic Idealize.ShloMosaic.TcCoe Idealize.SL.Sem Cert.Spec Cert.Softmax Cert.Block Finset

variable (m : (ℓ : Loc nD τ sig) → Buf (Elt Ideal) ℓ) (c : Dev nD)

/-- The literal that masks is −∞. -/
theorem bottom : Ideal.ofBits FTy.f32 0xFF800000#32 = ⊥ := by simp [Ideal.ofBits, Ideal.ieee]

/-- The literal an eighth. -/
theorem eighth : Ideal.ofBits FTy.f32 0x3E000000#32 = ((0.125 : ℝ) : EReal) := by
  simp [Ideal.ofBits, Ideal.ieee, -EReal.coe_mul]; norm_num

/-- A masked score: an eighth of the inner product where the key's block comes no later than the query's, else −∞. -/
theorem masked_at {q k : FVec Ideal S16384x512 .f32} (hq : Finite q) (hk : Finite k) (b : Fin 2) (h : Fin 4) (e : Fin 2) (p n : Fin 8192) :
    masked q k (ix5 b h e p n)
      = if n.val / 64 ≤ p.val / 64 then ((score q k b.val h.val e.val p.val n.val * 0.125 : ℝ) : EReal) else ⊥ := by
  have E : masked q k (ix5 b h e p n) = Scalar.select (IntOp.cmpi CmpIPredicate.sle (chunk (ix1 n)) (chunk (ix1 p)))
      (@HMul.hMul EReal EReal EReal _ (∑ j : Fin 64, (q (ix2 ⟨b.val * 8192 + p.val, by omega⟩ ⟨h.val * 128 + e.val * 64 + j.val, by omega⟩) : EReal)
          * k (ix2 ⟨b.val * 8192 + n.val, by omega⟩ ⟨h.val * 128 + e.val * 64 + j.val, by omega⟩)) (Ideal.ofBits FTy.f32 0x3E000000#32))
      (Ideal.ofBits FTy.f32 0xFF800000#32) := by
    pointwise [masked]
    rfl
  rw [E, chunk_at, chunk_at, sle_at _ _ (by omega) (by omega), bottom, eighth]
  simp only [entry_coe hq, entry_coe hk, ← EReal.coe_mul, ← coe_sum]
  split <;> rfl

/-- The largest of an array's entries along an axis, and of −∞, is a real where none is +∞ and one is a real. -/
theorem reduce_max_real {s t u : Shape} {axes : List (Fin s.rank)} (y : FVec Ideal t .f32) (x : FVec Ideal s .f32) (h : s.ReducesTo axes t) (hu : 0 < u.numel)
    (j : t.Idx) (hy : y j = ⊥) (htop : ∀ i, x i ≠ ⊤) (i : s.Idx) (hi : h.drop i = j) (hx : x i ≠ ⊥) :
    ∃ R : ℝ, maximumf y (Host.reduce FloatOps.maximumf x (constant u .f32 0xFF800000#32) h hu) j = (R : EReal) := by
  obtain ⟨R, hR⟩ := fold_max_real (univ.filter fun i => h.drop i = j) x (fun i _ => htop i) ⟨i, by simp [hi], hx⟩
  refine ⟨R, ?_⟩
  show max (y j) (Host.reduce FloatOps.maximumf x (constant u .f32 0xFF800000#32) h hu j) = _
  rw [hy, max_eq_right bot_le, Host.reduce_eq_fold, ← hR, ← bottom]
  rfl

/-- A score's index without its key. -/
theorem drop_at (b : Fin 2) (h : Fin 4) (e : Fin 2) (p n : Fin 8192) :
    reducesTo_S2x4x2x8192x8192_S2x4x2x8192_d4.drop (ix5 b h e p n) = ix4 b h e p := by
  funext a; fin_cases a <;> rfl

/-- The largest score of a query is a real. -/
theorem tops_real {q k : FVec Ideal S16384x512 .f32} (hq : Finite q) (hk : Finite k) (b : Fin 2) (h : Fin 4) (e : Fin 2) (p : Fin 8192) :
    ∃ R : ℝ, tops (masked q k) (ix4 b h e p) = (R : EReal) := by
  unfold tops
  refine reduce_max_real _ (masked q k) reducesTo_S2x4x2x8192x8192_S2x4x2x8192_d4 h_S_ (ix4 b h e p) bottom
    (fun i => ?_) (ix5 b h e p p) (drop_at b h e p p) ?_
  · obtain ⟨b, h, e, p, n, rfl⟩ : ∃ b h e p n, i = ix5 b h e p n := ⟨i 0, i 1, i 2, i 3, i 4, eq_ix5 i⟩
    rw [masked_at hq hk]
    split
    · exact EReal.coe_ne_top _
    · exact bot_ne_top
  · rw [masked_at hq hk, if_pos le_rfl]
    exact EReal.coe_ne_bot _

/-- The weight of the second softmax. -/
theorem mix_at (a b c d : FVec Ideal S64 .f32) : mix a b c d ix0 = lam a b c d := by
  pointwise [mix]
  rfl

/-- The normalised result. -/
theorem normed_at (o : FVec Ideal S2x4x8192x128 .f32) (g : FVec Ideal S128 .f32) (r : Fin 16384) (j : Fin 512) :
    normed o g (ix2 r j) = scaled (fun d => o (ix4 ⟨r.val / 8192, by omega⟩ ⟨j.val / 128, by omega⟩ ⟨r.val % 8192, by omega⟩ d))
      (fun d => g (ix1 d)) ⟨j.val % 128, by omega⟩ := by
  pointwise [normed, scaled]

/-- The keys seen from a position, as a set of numbers. -/
theorem seen_eq (p : Fin 8192) : (univ.filter fun n : Fin 8192 => n.val / 64 ≤ p.val / 64).map Fin.valEmbedding = seenBy p.val := by
  ext k
  simp only [seenBy, mem_map, mem_filter, mem_univ, true_and, Fin.valEmbedding_apply, mem_range]
  exact ⟨fun ⟨n, hn, e⟩ => e ▸ ⟨n.isLt, hn⟩, fun ⟨h, hn⟩ => ⟨⟨k, h⟩, hn, rfl⟩⟩

/-- The scale undone: the natural exponent of a score. -/
theorem scale_log (x : ℝ) : x * Host.scale * Real.log 2 = x * 0.125 := by
  have : Real.log 2 ≠ 0 := (Real.log_pos one_lt_two).ne'
  rw [Host.scale]
  field_simp

/-- The weighted values are the difference of two means. -/
theorem outs_eq {q k v : FVec Ideal S16384x512 .f32} (hq : Finite q) (hk : Finite k) (hv : Finite v) {l : FVec Ideal S_ .f32} {L : ℝ} (hl : l ix0 = (L : EReal))
    (b : Fin 2) (h : Fin 4) (p : Fin 8192) (d : Fin 128) :
    outs (weights (masked q k)) l v (ix4 b h p d)
      = diffMean p.val (fun n => score q k b.val h.val 0 p.val n * Host.scale) (fun n => score q k b.val h.val 1 p.val n * Host.scale)
        (fun d n => entry v (b.val * 8192 + n) (h.val * 128 + d.val)) (L : EReal) d := by
  have W (e : Fin 2) (n : Fin 8192) : weights (masked q k) (ix5 b h e p n)
      = (((if n.val / 64 ≤ p.val / 64 then Real.exp (score q k b.val h.val e.val p.val n.val * 0.125) else 0)
          / ∑ j : Fin 8192, if j.val / 64 ≤ p.val / 64 then Real.exp (score q k b.val h.val e.val p.val j.val * 0.125) else 0 : ℝ) : EReal) := by
    obtain ⟨M, hM⟩ := tops_real hq hk b h e p
    rw [weights_at, hM]
    have := softmax_coe (fun n : Fin 8192 => n.val / 64 ≤ p.val / 64) (fun n => score q k b.val h.val e.val p.val n.val * 0.125)
      (fun n => masked q k (ix5 b h e p n)) (fun n => masked_at hq hk b h e p n) ⟨p, le_rfl⟩ M n
    rw [zero_add] at this
    exact this
  rw [outs_at, hl]
  simp only [W, entry_coe hv]
  refine (diff_sum (fun n : Fin 8192 => n.val / 64 ≤ p.val / 64) (fun n => score q k b.val h.val 0 p.val n * 0.125)
    (fun n => score q k b.val h.val 1 p.val n * 0.125) (fun n => entry v (b.val * 8192 + n) (h.val * 128 + d.val)) L).trans ?_
  rw [seen_eq, diffMean, EReal.coe_sub, EReal.coe_mul]
  simp only [scale_log]

/-- The reference's result at a row and a column. -/
theorem result_at (hq : Finite (m (c.tc.loc main_arg0) : Rows)) (hk : Finite (m (c.tc.loc main_arg1) : Rows)) (hv : Finite (m (c.tc.loc main_arg2) : Rows))
    (h3 : Finite (m (c.tc.loc main_arg3) : Lanes)) (h4 : Finite (m (c.tc.loc main_arg4) : Lanes)) (h5 : Finite (m (c.tc.loc main_arg5) : Lanes))
    (h6 : Finite (m (c.tc.loc main_arg6) : Lanes)) (r : Fin 16384) (j : Fin 512) :
    Value.res_main_v61 (F := Ideal) m c (ix2 r j)
      = result (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) r j := by
  obtain ⟨L, hL⟩ := lam_real h3 h4 h5 h6
  rw [result_eq, normed_at, result, hL]
  congr 1
  funext d
  exact outs_eq hq hk hv ((mix_at _ _ _ _).trans hL) _ _ _ d

end Cert.Plain

end
-- ==== Proof.Equation.lean ====
/-
  The two programs give equal arrays: the precondition read as finiteness, and the two runs set side by side.
-/
module

public import proofs.«01_k».proof.Defs
public import proofs.«01_k».proof.Proof.KernelValue
public import proofs.«01_k».proof.Proof.PlainValue
public import proofs.«01_k».proof.Proof.Gen.Pre_finite

@[expose] public section

set_option maxRecDepth 16384

noncomputable section

namespace Cert.Equation

open Idealize.ShloMosaic Idealize.ShloMosaic.TcCoe Idealize.SL.Sem Cert.Spec

/-- An array whose magnitudes compare below infinity holds reals alone. -/
theorem finite_of_lt {s : Shape} (hb : (⟨0, ![]⟩ : Shape).BroadcastsInDim s (![] : Fin 0 → Fin s.rank)) (x : FVec Ideal s .f32)
    (h : cmpf .olt (Host.absf x) (broadcastInDim s ![] hb (constant ⟨0, ![]⟩ .f32 0x7F800000#32)) = fun _ => 1#1) : Spec.Finite x := by
  intro i
  have h := congrFun h i
  have e : Ideal.ofBits FTy.f32 0x7F800000#32 = ⊤ := by simp [Ideal.ofBits, Ideal.ieee]
  change Ideal.cmp .olt (max (x i : EReal) (-(x i : EReal))) (Ideal.ofBits FTy.f32 0x7F800000#32) = 1#1 at h
  rw [e] at h
  constructor
  · intro hx
    rw [hx] at h
    simp [Ideal.cmp] at h
  · intro hx
    rw [hx] at h
    simp [Ideal.cmp] at h

/-- The kernel's array equals the reference's. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp hm
  refine ⟨fun c => Whole.whole m c, ?_, ?_⟩
  · refine (θ_run _ _ _).mono (fun r h c => ?_) (Cert.KernelIdeal.Value.run_blocks (F := Ideal) m g)
    obtain ⟨h0, h1, h2, h3, h4, h5, h6⟩ := hp c
    exact ⟨(h c).1.trans (Whole.final m c (finite_of_lt _ _ h0) (finite_of_lt _ _ h1) (finite_of_lt _ _ h2)), (h c).2⟩
  · refine (θ_run _ _ _).mono (fun r h c => ?_) (Cert.ReferenceIdeal.Value.run (F := Ideal) m' g')
    obtain ⟨h0, h1, h2, h3, h4, h5, h6⟩ := hp c
    obtain ⟨e0, e1, e2, e3, e4, e5, e6, e7⟩ := hm c
    refine ⟨(h c).1.trans ?_, (h c).2⟩
    funext y
    change (⟨2, ![16384, 512]⟩ : Shape).Idx at y
    obtain ⟨r, j, rfl⟩ : ∃ (r : Fin 16384) (j : Fin 512), y = ix2 r j := ⟨y 0, y 1, eq_ix2 y⟩
    refine (Plain.result_at m' c (e0 ▸ finite_of_lt _ _ h0) (e1 ▸ finite_of_lt _ _ h1) (e2 ▸ finite_of_lt _ _ h2) (e3 ▸ finite_of_lt _ _ h3)
      (e4 ▸ finite_of_lt _ _ h4) (e5 ▸ finite_of_lt _ _ h5) (e6 ▸ finite_of_lt _ _ h6) r j).trans ?_
    rw [e0, e1, e2, e3, e4, e5, e6, e7]
    rfl

end Cert.Equation

end
-- ==== Proof.ProjectionSpec.lean ====
/-
  The input projection's mathematics over the extended reals, one row at a time: the row normed, its products with the
  weights' columns, the normed heads of 64 columns, their turned first sixteen lanes, and the gates.
-/
module

public import Idealize.ShloMosaic.Lib.Pointwise

@[expose] public section

noncomputable section

namespace Cert.Projection

open Idealize.ShloMosaic Finset

/-- A row over its root mean square, times the gains. -/
def unitRow (x g : Fin 1024 → EReal) (k : Fin 1024) : EReal :=
  x k * Ideal.rsqrt (Ideal.div (∑ e : Fin 1024, x e * x e) (Ideal.ofBits .f32 0x44800000#32) + Ideal.ofBits .f32 0x358637BD#32) * g k

/-- The products of a normed row `u` with 512 columns of the weights, the first of them column `o`. -/
def role (u : Fin 1024 → EReal) (w : Fin 1024 → Fin 7680 → EReal) (o : ℕ) (ho : o ≤ 7168) (c : Fin 512) : EReal :=
  ∑ k : Fin 1024, u k * w k ⟨o + c.val, by omega⟩

/-- Column `e` of the head that column `c` lies in. -/
def headCol (c : Fin 512) (e : Fin 64) : Fin 512 := ⟨c.val / 64 * 64 + e.val, by omega⟩

/-- A column's place in its head. -/
def lane (c : Fin 512) : Fin 64 := ⟨c.val % 64, Nat.mod_lt _ (by decide)⟩

/-- Each head over its root mean square, times the gains. -/
def headNorm (p : Fin 512 → EReal) (g : Fin 64 → EReal) (c : Fin 512) : EReal :=
  p c * Ideal.rsqrt (Ideal.div (∑ e : Fin 64, p (headCol c e) * p (headCol c e)) (Ideal.ofBits .f32 0x42800000#32)
    + Ideal.ofBits .f32 0x358637BD#32) * g (lane c)

/-- The first sixteen lanes of each head, taken as eight pairs and turned by eight angles; the others as they are. -/
def turned (y : Fin 512 → EReal) (co si : Fin 8 → EReal) (c : Fin 512) : EReal :=
  if h : c.val % 64 < 8 then y c * co ⟨c.val % 64, h⟩ - y ⟨c.val + 8, by omega⟩ * si ⟨c.val % 64, h⟩
  else if h' : c.val % 64 < 16 then
    y c * co ⟨c.val % 64 - 8, by omega⟩ + y ⟨c.val - 8, by omega⟩ * si ⟨c.val % 64 - 8, by omega⟩
  else y c

/-- The gate of a product. -/
def gate (p : EReal) : EReal := Ideal.div 1 (1 + Ideal.exp (0 - p))

/-- The nine results of 512 columns at a row: queries, keys and values of the three mechanisms, in this order. -/
def rowOut (n : Fin 9) (u : Fin 1024 → EReal) (w : Fin 1024 → Fin 7680 → EReal) (g : Fin 4 → Fin 64 → EReal) (co si : Fin 8 → EReal)
    (c : Fin 512) : EReal :=
  match n with
  | ⟨0, _⟩ => turned (headNorm (role u w 0 (by decide)) (g 0)) co si c * Ideal.ofBits .f32 0x3E38AA3B#32
  | ⟨1, _⟩ => turned (headNorm (role u w 512 (by decide)) (g 1)) co si c
  | ⟨2, _⟩ => role u w 1024 (by decide) c
  | ⟨3, _⟩ => headNorm (role u w 1536 (by decide)) (g 2) c * Ideal.ofBits .f32 0x3E000000#32
  | ⟨4, _⟩ => headNorm (role u w 2048 (by decide)) (g 3) c
  | ⟨5, _⟩ => role u w 2560 (by decide) c
  | ⟨6, _⟩ => role u w 3072 (by decide) c * Ideal.ofBits .f32 0x3E000000#32
  | ⟨7, _⟩ => role u w 3584 (by decide) c
  | ⟨8, _⟩ => role u w 4096 (by decide) c

/-- The gates at a row. -/
def rowGate (u : Fin 1024 → EReal) (w : Fin 1024 → Fin 7680 → EReal) (c : Fin 3072) : EReal :=
  gate (∑ k : Fin 1024, u k * w k ⟨4608 + c.val, by omega⟩)

/-- The angle of pair `j` at position `s`: the position over the base to the power of `2 j / 16`. -/
def angle (s j : ℕ) : EReal :=
  @HMul.hMul EReal EReal EReal _ (FloatOps.sitofp (F := Ideal) FTy.f32 (BitVec.ofNat 32 s))
    (Ideal.div 1 (Ideal.pow (Ideal.ofBits FTy.f32 1223959552#32)
      (Ideal.div (@HMul.hMul EReal EReal EReal _ (Ideal.ofBits FTy.f32 1073741824#32) (FloatOps.sitofp (F := Ideal) FTy.f32 (BitVec.ofNat 32 j)))
        (Ideal.ofBits FTy.f32 1098907648#32))))

/-- The four vectors of gains, one after the other. -/
def gainsOf (a3 a4 a5 a6 : (⟨1, ![64]⟩ : Shape).Idx → EReal) : Fin 4 → Fin 64 → EReal
  | ⟨0, _⟩, l => a3 (ix1 l)
  | ⟨1, _⟩, l => a4 (ix1 l)
  | ⟨2, _⟩, l => a5 (ix1 l)
  | ⟨3, _⟩, l => a6 (ix1 l)

/-- One of the nine results of 512 columns, at a row and a column, from the arguments' arrays. -/
def outOf (n : Fin 9) (a0 : (⟨2, ![16384, 1024]⟩ : Shape).Idx → EReal) (a1 : (⟨1, ![1024]⟩ : Shape).Idx → EReal)
    (a2 : (⟨2, ![1024, 7680]⟩ : Shape).Idx → EReal) (a3 a4 a5 a6 : (⟨1, ![64]⟩ : Shape).Idx → EReal) (r : Fin 16384) (c : Fin 512) : EReal :=
  rowOut n (unitRow (fun k => a0 (ix2 r k)) (fun k => a1 (ix1 k))) (fun k j => a2 (ix2 k j)) (gainsOf a3 a4 a5 a6)
    (fun j => Ideal.cos (angle (r.val % 8192) j.val)) (fun j => Ideal.sin (angle (r.val % 8192) j.val)) c

/-- The gates, at a row and a column, from the arguments' arrays. -/
def gateOf (a0 : (⟨2, ![16384, 1024]⟩ : Shape).Idx → EReal) (a1 : (⟨1, ![1024]⟩ : Shape).Idx → EReal)
    (a2 : (⟨2, ![1024, 7680]⟩ : Shape).Idx → EReal) (r : Fin 16384) (c : Fin 3072) : EReal :=
  rowGate (unitRow (fun k => a0 (ix2 r k)) (fun k => a1 (ix1 k))) (fun k j => a2 (ix2 k j)) c

theorem ofBits_zero : Ideal.ofBits .f32 0x00000000#32 = 0 := by
  simp [Ideal.ofBits, Ideal.ieee, -EReal.coe_mul]

theorem ofBits_one : Ideal.ofBits .f32 0x3F800000#32 = 1 := by
  simp [Ideal.ofBits, Ideal.ieee, -EReal.coe_mul]
  try norm_num

theorem ofBits_64 : Ideal.ofBits .f32 0x42800000#32 = ((64 : ℝ) : EReal) := by
  simp [Ideal.ofBits, Ideal.ieee, -EReal.coe_mul]
  try norm_num

theorem ofBits_64th : Ideal.ofBits .f32 0x3C800000#32 = ((1 / 64 : ℝ) : EReal) := by
  simp [Ideal.ofBits, Ideal.ieee, -EReal.coe_mul]
  try norm_num

/-- Dividing by 64 is multiplying by its reciprocal, at the infinities too. -/
theorem div_64 (x : EReal) : Ideal.div x (Ideal.ofBits .f32 0x42800000#32) = x * Ideal.ofBits .f32 0x3C800000#32 := by
  rw [ofBits_64, ofBits_64th, Ideal.div_coe (by norm_num)]

/-- A sum over four heads against the indicator of one of them is the sum over that head. -/
theorem sum_head (f : Fin 256 → EReal) (h : Fin 4) :
    (∑ k : Fin 256, f k * (if k.val / 64 = h.val then 1 else 0)) = ∑ e : Fin 64, f ⟨h.val * 64 + e.val, by omega⟩ := by
  simp only [mul_ite, mul_one, mul_zero]
  rw [← Finset.sum_filter]
  refine Finset.sum_bij' (fun k _ => (⟨k.val % 64, Nat.mod_lt _ (by decide)⟩ : Fin 64))
    (fun e _ => (⟨h.val * 64 + e.val, by omega⟩ : Fin 256)) ?_ ?_ ?_ ?_ ?_
  · intro k _; exact Finset.mem_univ _
  · intro e _; simp only [Finset.mem_filter, Finset.mem_univ, true_and]; omega
  · intro k hk; simp only [Finset.mem_filter, Finset.mem_univ, true_and] at hk; apply Fin.ext; show h.val * 64 + k.val % 64 = k.val; omega
  · intro e _; apply Fin.ext; show (h.val * 64 + e.val) % 64 = e.val; omega
  · intro k hk; simp only [Finset.mem_filter, Finset.mem_univ, true_and] at hk; congr 1; apply Fin.ext; show k.val = h.val * 64 + k.val % 64; omega

end Cert.Projection

end
-- ==== Proof.ProjectionBody.lean ====
/-
  What one grid point of the input projection computes from its blocks, read at an index.
-/
module

public import proofs.«01_k».proof.Proof.Gen.Kernel2Ideal.Frame
public import proofs.«01_k».proof.Proof.ProjectionSpec
public import Idealize.ShloMosaic.Lib.Pipeline.ValueKit.Basic
public import Idealize.ShloMosaic.Lib.Pipeline.ValueKit.Geometry

@[expose] public section

set_option maxRecDepth 16384

noncomputable section

namespace Cert.Projection

open Cert.Kernel2Ideal Cert.Kernel2Ideal.Gen Idealize.ShloMosaic Idealize.ShloMosaic.TcCoe Idealize.SL.Sem Finset

/-- The normed rows of the block. -/
theorem rows_at (x : Vec Ideal S256x1024 .f32) (g : Vec Ideal S1x1024 .f32) (r : Fin 256) (k : Fin 1024) :
    k0_pay3 x g (ix2 r k) = unitRow (fun k => x (ix2 r k)) (fun k => g (ix2 0 k)) k := by
  pointwise [k0_pay3, unitRow]

/-- The products of the block's rows with 512 columns. -/
theorem products_at (u : FVec Ideal S256x1024 .bf16) (w : Vec Ideal S1024x512 .bf16) (r : Fin 256) (c : Fin 512) :
    k0_pay19 u w (ix2 r c) = (∑ k : Fin 1024, (u (ix2 r k) * w (ix2 k c) : EReal) : EReal) := by
  pointwise [k0_pay19]

/-- The head norm as the body takes it. -/
def normBlock (p : FVec Ideal S256x512 .f32) (q : FVec Ideal S256x256 .bf16) (g : FVec Ideal S1x512 .f32) : FVec Ideal S256x512 .f32 :=
  mulf (mulf p (rsqrt (addf (mulf (concatenate S256x512 1
    [⟨S256x256, matmul dot_S256x256_S256x256_S256x256_1_0_0_1_n_n none (extractStridedSlice S256x256 ![0, 0] (truncf .bf16 (mulf p p) bitsLt_bf16_f32) slices_S256x512_o0_0_S256x256) q (constant S256x256 .f32 0x00000000#32)⟩,
     ⟨S256x256, matmul dot_S256x256_S256x256_S256x256_1_0_0_1_n_n none (extractStridedSlice S256x256 ![0, 256] (truncf .bf16 (mulf p p) bitsLt_bf16_f32) slices_S256x512_o0_256_S256x256) q (constant S256x256 .f32 0x00000000#32)⟩]
    concatenates_S256x256_S256x256_S256x512_d1) (broadcast S256x512 (Scalar.ofBits .f32 0x3C800000#32)))
    (broadcast S256x512 (Scalar.ofBits .f32 0x358637BD#32))))) (broadcastTo S256x512 g broadcasts_S1x512_S256x512)

/-- A block of columns turned as the body turns it. -/
def turnGroup (y : FVec Ideal S256x128 .f32) (a b d : FVec Ideal S256x128 .f32) : FVec Ideal S256x128 .f32 :=
  addf (addf (mulf y a) (mulf (dynamicRotate 1 120#32 none y rotates_S256x128_d1) b)) (mulf (dynamicRotate 1 8#32 none y rotates_S256x128_d1) d)

/-- The four blocks of columns turned. -/
def turnBlock (y : FVec Ideal S256x512 .f32) (a b d : FVec Ideal S256x128 .f32) : FVec Ideal S256x512 .f32 :=
  concatenate S256x512 1 [⟨S256x128, turnGroup (extractStridedSlice S256x128 ![0, 0] y slices_S256x512_o0_0_S256x128) a b d⟩,
    ⟨S256x128, turnGroup (extractStridedSlice S256x128 ![0, 128] y slices_S256x512_o0_128_S256x128) a b d⟩,
    ⟨S256x128, turnGroup (extractStridedSlice S256x128 ![0, 256] y slices_S256x512_o0_256_S256x128) a b d⟩,
    ⟨S256x128, turnGroup (extractStridedSlice S256x128 ![0, 384] y slices_S256x512_o0_384_S256x128) a b d⟩]
    concatenates_S256x128_S256x128_S256x128_S256x128_S256x512_d1

/-- The table of heads: one on the columns of one head, zero elsewhere. -/
def IsGroups (q : FVec Ideal S256x256 .bf16) : Prop :=
  ∀ k j : Fin 256, (q (ix2 k j) : EReal) = if k.val / 64 = j.val / 64 then 1 else 0

/-- The tables of the turns at a row: cosines on both halves of the pairs and ones elsewhere, the sines less zero on the
    first halves, the sines on the second ones. -/
structure IsTurns (a b d : FVec Ideal S256x128 .f32) (co si : Fin 256 → Fin 8 → EReal) : Prop where
  cosines (r : Fin 256) (l : Fin 128) : (a (ix2 r l) : EReal) = if l.val % 64 < 16 then co r ⟨l.val % 64 % 8, by omega⟩ else 1
  firsts (r : Fin 256) (l : Fin 128) : (b (ix2 r l) : EReal) = if l.val % 64 < 8 then -si r ⟨l.val % 64 % 8, by omega⟩ else 0
  seconds (r : Fin 256) (l : Fin 128) : (d (ix2 r l) : EReal) = if 8 ≤ l.val % 64 ∧ l.val % 64 < 16 then si r ⟨l.val % 64 % 8, by omega⟩ else 0

/-- The body's head norm is the head norm of each row. -/
theorem normBlock_at (p : FVec Ideal S256x512 .f32) (q : FVec Ideal S256x256 .bf16) (g : FVec Ideal S1x512 .f32) (hq : IsGroups q)
    (G : Fin 64 → EReal) (hg : ∀ c : Fin 512, (g (ix2 0 c) : EReal) = G (lane c)) (r : Fin 256) (c : Fin 512) :
    normBlock p q g (ix2 r c) = headNorm (fun c => p (ix2 r c)) G c := by
  pointwise [normBlock]
  rw [headNorm, hg, div_64]
  congr 5
  split
  · next h =>
    simp only [hq _ _]
    refine (sum_head (fun k => (p (ix2 r ⟨k.val, by omega⟩) * p (ix2 r ⟨k.val, by omega⟩) : EReal)) ⟨c.val / 64, by omega⟩).trans ?_
    rfl
  · next h =>
    have e : (c.val - 256) / 64 = c.val / 64 - 4 := by omega
    simp only [hq _ _, e]
    refine (sum_head (fun k => (p (ix2 r ⟨256 + k.val, by omega⟩) * p (ix2 r ⟨256 + k.val, by omega⟩) : EReal)) ⟨c.val / 64 - 4, by omega⟩).trans ?_
    refine Finset.sum_congr rfl fun k _ => ?_
    have e' : (⟨256 + ((c.val / 64 - 4) * 64 + k.val), by omega⟩ : Fin 512) = headCol c k :=
      Fin.ext (by show 256 + ((c.val / 64 - 4) * 64 + k.val) = c.val / 64 * 64 + k.val; omega)
    show (p (ix2 r ⟨256 + ((c.val / 64 - 4) * 64 + k.val), _⟩) * p (ix2 r ⟨256 + ((c.val / 64 - 4) * 64 + k.val), _⟩) : EReal) = _
    rw [e']

/-- A block of 128 columns, two whole heads, turned is the turn of each row there. -/
theorem turnGroup_at (y : Fin 512 → EReal) (z a b d : FVec Ideal S256x128 .f32) {co si : Fin 256 → Fin 8 → EReal} (T : IsTurns a b d co si)
    (r : Fin 256) (i : ℕ) (hi : i < 4) (hz : ∀ l : Fin 128, (z (ix2 r l) : EReal) = y ⟨128 * i + l.val, by omega⟩) (l : Fin 128)
    (c : Fin 512) (hc : c.val = 128 * i + l.val) :
    turnGroup z a b d (ix2 r l) = turned y (co r) (si r) c := by
  pointwise [turnGroup]
  rw [hz, hz, hz, T.cosines, T.firsts, T.seconds, turned]
  have e : c.val % 64 = l.val % 64 := by omega
  have ec : (⟨128 * i + l.val, by omega⟩ : Fin 512) = c := Fin.ext hc.symm
  rw [ec]
  by_cases h : l.val % 64 < 8
  · rw [if_pos (by omega), if_pos h, if_neg (by omega), dif_pos (by omega), mul_zero, add_zero, mul_neg, ← sub_eq_add_neg]
    congr 3 <;> apply Fin.ext <;> dsimp only <;> omega
  · by_cases h' : l.val % 64 < 16
    · rw [if_pos h', if_neg h, if_pos ⟨by omega, h'⟩, dif_neg (by omega), dif_pos (by omega), mul_zero, add_zero]
      congr 3 <;> apply Fin.ext <;> dsimp only <;> omega
    · rw [if_neg h', if_neg h, if_neg (by omega), dif_neg (by omega), dif_neg (by omega), mul_zero, mul_zero, add_zero, add_zero, mul_one]

/-- The turned block is the turn of each row. -/
theorem turnBlock_at (y : FVec Ideal S256x512 .f32) (a b d : FVec Ideal S256x128 .f32) {co si : Fin 256 → Fin 8 → EReal} (T : IsTurns a b d co si)
    (r : Fin 256) (c : Fin 512) :
    turnBlock y a b d (ix2 r c) = turned (fun c => y (ix2 r c)) (co r) (si r) c := by
  pointwise [turnBlock]
  split
  · next h => exact turnGroup_at _ _ _ _ _ T r 0 (by decide) (fun l => by pointwise) _ c (by show _ = 128 * 0 + c.val; omega)
  · next h0 =>
    split
    · next h => exact turnGroup_at _ _ _ _ _ T r 1 (by decide) (fun l => by pointwise) _ c (by show _ = 128 * 1 + (c.val - 128); omega)
    · next h1 =>
      split
      · next h => exact turnGroup_at _ _ _ _ _ T r 2 (by decide) (fun l => by pointwise) _ c (by show _ = 128 * 2 + (c.val - 128 - 128); omega)
      · next h2 => exact turnGroup_at _ _ _ _ _ T r 3 (by decide) (fun l => by pointwise) _ c (by show _ = 128 * 3 + (c.val - 128 - 128 - 128); omega)

/-- The gates of the block. -/
theorem gates_at (u : FVec Ideal S256x1024 .bf16) (w : Vec Ideal S1024x512 .bf16) (r : Fin 256) (c : Fin 512) :
    k0_pay26 u w (ix2 r c) = gate (∑ k : Fin 1024, (u (ix2 r k) * w (ix2 k c) : EReal) : EReal) := by
  pointwise [k0_pay26, gate]

/-! ## The loads -/

/-- 512 columns of the weights as the body loads them. -/
theorem load_columns (x : Vec Ideal S1024x7680 .bf16) (o : ℕ) (inb) (k : Fin 1024) (c : Fin 512) (h : o + c.val < 7680) :
    View.ld x (Rect.unit (s := S1024x7680) ![0, o] S1024x512.size inb) (ix2 k c) = x (ix2 k ⟨o + c.val, h⟩) := by
  show x _ = x _
  congr 1
  funext a
  apply Fin.ext
  match a with
  | ⟨0, _⟩ => show 0 + 1 * k.val = k.val; omega
  | ⟨1, _⟩ => show o + 1 * c.val = o + c.val; omega

/-- A row of gains as the body loads it. -/
theorem load_gains (x : Vec Ideal S8x512 .f32) (o : ℕ) (inb) (c : Fin 512) (h : o < 8) :
    View.ld x (Rect.unit (s := S8x512) ![o, 0] S1x512.size inb) (ix2 0 c) = x (ix2 ⟨o, h⟩ c) := by
  show x _ = x _
  congr 1
  funext a
  apply Fin.ext
  match a with
  | ⟨0, _⟩ => show o + 1 * 0 = o; omega
  | ⟨1, _⟩ => show 0 + 1 * c.val = c.val; omega

/-- The products with columns loaded from column `o` on are the role at `o`. -/
theorem role_at (u : FVec Ideal S256x1024 .bf16) (x : Vec Ideal S1024x7680 .bf16) (o : ℕ) (ho : o ≤ 7168) (inb) (r : Fin 256) (c : Fin 512) :
    k0_pay19 u (View.ld x (Rect.unit (s := S1024x7680) ![0, o] S1024x512.size inb)) (ix2 r c)
      = role (fun k => u (ix2 r k)) (fun k c => x (ix2 k c)) o ho c := by
  rw [products_at, role]
  refine Finset.sum_congr rfl fun k _ => ?_
  rw [load_columns x o inb k c (by omega)]

/-- A head norm of loaded columns. -/
theorem normed_at (u : FVec Ideal S256x1024 .bf16) (x : Vec Ideal S1024x7680 .bf16) (o : ℕ) (ho : o ≤ 7168) (inb)
    (q : FVec Ideal S256x256 .bf16) (hq : IsGroups q) (x3 : Vec Ideal S8x512 .f32) (i : ℕ) (hi : i < 8) (inb')
    (G : Fin 64 → EReal) (hG : ∀ c : Fin 512, (x3 (ix2 ⟨i, hi⟩ c) : EReal) = G (lane c)) (r : Fin 256) (c : Fin 512) :
    k0_pay12 u q (View.ld x (Rect.unit (s := S1024x7680) ![0, o] S1024x512.size inb)) (View.ld x3 (Rect.unit (s := S8x512) ![i, 0] S1x512.size inb')) (ix2 r c)
      = headNorm (role (fun k => u (ix2 r k)) (fun k c => x (ix2 k c)) o ho) G c := by
  have e (w : Vec Ideal S1024x512 .bf16) (g : Vec Ideal S1x512 .f32) : k0_pay12 u q w g = normBlock (k0_pay19 u w) q g := by
    have : shapeCast S1x512 g shapeCasts_S1x512_S1x512 = g := shapeCast_self _ _
    unfold k0_pay12; dsimp only; rw [this]; rfl
  rw [e, normBlock_at _ _ _ hq G (fun c => (load_gains x3 i inb' c hi).trans (hG c))]
  exact congrArg (fun p => headNorm p G c) (funext fun c => role_at u x o ho inb r c)

/-! ## What the body leaves -/

variable {x0 : Vec Ideal S256x1024 .f32} {x1 : Vec Ideal S1x1024 .f32} {x2 : Vec Ideal S1024x7680 .bf16} {x3 : Vec Ideal S8x512 .f32}
  {x4 : Vec Ideal S256x256 .bf16} {x5 x6 x7 : Vec Ideal S256x128 .f32} {g : Fin 4 → Fin 64 → EReal} {co si : Fin 256 → Fin 8 → EReal}

/-- A block stored whole is what was stored. -/
theorem canon_whole (p : Vec Ideal S256x512 .bf16) : View.canon [(⟨r0_6, p⟩ : View.Piece (Elt Ideal) S256x512 .bf16)] = p :=
  View.canon_cons_unit_lit _ p [] (by decide)

/-- The normed rows that every product takes. -/
theorem rows_eq (r : Fin 256) : (fun k => k0_pay31 (F := Ideal) x0 x1 x2 x3 x4 x5 x6 x7 (ix2 r k))
    = unitRow (fun k => x0 (ix2 r k)) (fun k => x1 (ix2 0 k)) := by
  funext k
  have e0 : View.ld x0 r0_0 = x0 := View.ld_unit_lit _ _ (by decide)
  have e1 : View.ld x1 r0_1 = x1 := View.ld_unit_lit _ _ (by decide)
  rw [k0_pay31, e0, e1]
  exact rows_at x0 x1 r k

/-- The table of gains has a row for each of the four norms. -/
theorem gain_lt (i : Fin 4) : i.val < 8 := by omega

/-- The table of heads that the norms take. -/
theorem groups_eq : k0_pay32 (F := Ideal) x0 x1 x2 x3 x4 x5 x6 x7 = x4 := by
  have e : View.ld x4 r0_2 = x4 := View.ld_unit_lit _ _ (by decide)
  rw [k0_pay32, e]
  exact shapeCast_self _ _

/-- The tables that the turns take. -/
theorem turns_eq : k0_pay33 (F := Ideal) x0 x1 x2 x3 x4 x5 x6 x7 = x5 ∧ k0_pay34 (F := Ideal) x0 x1 x2 x3 x4 x5 x6 x7 = x6
    ∧ k0_pay35 (F := Ideal) x0 x1 x2 x3 x4 x5 x6 x7 = x7 := by
  have e5 : View.ld x5 r0_3 = x5 := View.ld_unit_lit _ _ (by decide)
  have e6 : View.ld x6 r0_3 = x6 := View.ld_unit_lit _ _ (by decide)
  have e7 : View.ld x7 r0_3 = x7 := View.ld_unit_lit _ _ (by decide)
  refine ⟨?_, ?_, ?_⟩
  · rw [k0_pay33, e5]; exact shapeCast_self _ _
  · rw [k0_pay34, e6]; exact shapeCast_self _ _
  · rw [k0_pay35, e7]; exact shapeCast_self _ _

section

variable (hq : IsGroups x4) (T : IsTurns x5 x6 x7 co si) (hg : ∀ (i : Fin 4) (c : Fin 512), (x3 (ix2 ⟨i.val, gain_lt i⟩ c) : EReal) = g i (lane c))
  (r : Fin 256) (c : Fin 512)

include hq T hg in
/-- The first mechanism's queries. -/
theorem out8_at : out0_8 (F := Ideal) x0 x1 x2 x3 x4 x5 x6 x7 (ix2 r c)
    = rowOut 0 (unitRow (fun k => x0 (ix2 r k)) (fun k => x1 (ix2 0 k))) (fun k c => x2 (ix2 k c)) g (co r) (si r) c := by
  rw [out0_8, canon_whole, turns_eq.1, turns_eq.2.1, turns_eq.2.2]
  show (turnBlock (k0_pay12 (k0_pay31 x0 x1 x2 x3 x4 x5 x6 x7) (k0_pay32 x0 x1 x2 x3 x4 x5 x6 x7) (View.ld x2 r0_4) (View.ld x3 r0_5)) x5 x6 x7 (ix2 r c) : EReal)
    * Ideal.ofBits .f32 0x3E38AA3B#32 = _
  rw [turnBlock_at _ _ _ _ T, groups_eq]
  show _ = turned _ _ _ c * _
  congr 2
  funext c
  rw [normed_at _ x2 0 (by decide) _ x4 hq x3 0 (by decide) _ (g 0) (hg 0), rows_eq]

include hq T hg in
/-- The first mechanism's keys. -/
theorem out9_at : out0_9 (F := Ideal) x0 x1 x2 x3 x4 x5 x6 x7 (ix2 r c)
    = rowOut 1 (unitRow (fun k => x0 (ix2 r k)) (fun k => x1 (ix2 0 k))) (fun k c => x2 (ix2 k c)) g (co r) (si r) c := by
  rw [out0_9, canon_whole, turns_eq.1, turns_eq.2.1, turns_eq.2.2]
  show (turnBlock (k0_pay12 (k0_pay31 x0 x1 x2 x3 x4 x5 x6 x7) (k0_pay32 x0 x1 x2 x3 x4 x5 x6 x7) (View.ld x2 r0_7) (View.ld x3 r0_8)) x5 x6 x7 (ix2 r c) : EReal) = _
  rw [turnBlock_at _ _ _ _ T, groups_eq]
  show _ = turned _ _ _ c
  congr 1
  funext c
  rw [normed_at _ x2 512 (by decide) _ x4 hq x3 1 (by decide) _ (g 1) (hg 1), rows_eq]

/-- The first mechanism's values. -/
theorem out10_at : out0_10 (F := Ideal) x0 x1 x2 x3 x4 x5 x6 x7 (ix2 r c)
    = rowOut 2 (unitRow (fun k => x0 (ix2 r k)) (fun k => x1 (ix2 0 k))) (fun k c => x2 (ix2 k c)) g (co r) (si r) c := by
  rw [out0_10, canon_whole, role_at _ x2 1024 (by decide), rows_eq]
  rfl

include hq hg in
/-- The second mechanism's queries. -/
theorem out11_at : out0_11 (F := Ideal) x0 x1 x2 x3 x4 x5 x6 x7 (ix2 r c)
    = rowOut 3 (unitRow (fun k => x0 (ix2 r k)) (fun k => x1 (ix2 0 k))) (fun k c => x2 (ix2 k c)) g (co r) (si r) c := by
  rw [out0_11, canon_whole]
  show (k0_pay12 (k0_pay31 x0 x1 x2 x3 x4 x5 x6 x7) (k0_pay32 x0 x1 x2 x3 x4 x5 x6 x7) (View.ld x2 r0_10) (View.ld x3 r0_11) (ix2 r c) : EReal)
    * Ideal.ofBits .f32 0x3E000000#32 = _
  rw [groups_eq, normed_at _ x2 1536 (by decide) _ x4 hq x3 2 (by decide) _ (g 2) (hg 2), rows_eq]
  rfl

include hq hg in
/-- The second mechanism's keys. -/
theorem out12_at : out0_12 (F := Ideal) x0 x1 x2 x3 x4 x5 x6 x7 (ix2 r c)
    = rowOut 4 (unitRow (fun k => x0 (ix2 r k)) (fun k => x1 (ix2 0 k))) (fun k c => x2 (ix2 k c)) g (co r) (si r) c := by
  rw [out0_12, canon_whole]
  show (k0_pay12 (k0_pay31 x0 x1 x2 x3 x4 x5 x6 x7) (k0_pay32 x0 x1 x2 x3 x4 x5 x6 x7) (View.ld x2 r0_12) (View.ld x3 r0_13) (ix2 r c) : EReal) = _
  rw [groups_eq, normed_at _ x2 2048 (by decide) _ x4 hq x3 3 (by decide) _ (g 3) (hg 3), rows_eq]
  rfl

/-- The second mechanism's values. -/
theorem out13_at : out0_13 (F := Ideal) x0 x1 x2 x3 x4 x5 x6 x7 (ix2 r c)
    = rowOut 5 (unitRow (fun k => x0 (ix2 r k)) (fun k => x1 (ix2 0 k))) (fun k c => x2 (ix2 k c)) g (co r) (si r) c := by
  rw [out0_13, canon_whole]
  refine (role_at _ x2 2560 (by decide) _ r c).trans ?_
  rw [rows_eq]
  rfl

/-- The third mechanism's queries. -/
theorem out14_at : out0_14 (F := Ideal) x0 x1 x2 x3 x4 x5 x6 x7 (ix2 r c)
    = rowOut 6 (unitRow (fun k => x0 (ix2 r k)) (fun k => x1 (ix2 0 k))) (fun k c => x2 (ix2 k c)) g (co r) (si r) c := by
  rw [out0_14, canon_whole]
  refine (congrArg (fun a : EReal => a * Ideal.ofBits .f32 0x3E000000#32) (role_at _ x2 3072 (by decide) _ r c)).trans ?_
  rw [rows_eq]
  rfl

/-- The third mechanism's keys. -/
theorem out15_at : out0_15 (F := Ideal) x0 x1 x2 x3 x4 x5 x6 x7 (ix2 r c)
    = rowOut 7 (unitRow (fun k => x0 (ix2 r k)) (fun k => x1 (ix2 0 k))) (fun k c => x2 (ix2 k c)) g (co r) (si r) c := by
  rw [out0_15, canon_whole]
  refine (role_at _ x2 3584 (by decide) _ r c).trans ?_
  rw [rows_eq]
  rfl

/-- The third mechanism's values. -/
theorem out16_at : out0_16 (F := Ideal) x0 x1 x2 x3 x4 x5 x6 x7 (ix2 r c)
    = rowOut 8 (unitRow (fun k => x0 (ix2 r k)) (fun k => x1 (ix2 0 k))) (fun k c => x2 (ix2 k c)) g (co r) (si r) c := by
  rw [out0_16, canon_whole]
  refine (role_at _ x2 4096 (by decide) _ r c).trans ?_
  rw [rows_eq]
  rfl

end

/-- The gates of a block of rows. -/
def gateBlock (x0 : Vec Ideal S256x1024 .f32) (x1 : Vec Ideal S1x1024 .f32) (x2 : Vec Ideal S1024x7680 .bf16) : Vec Ideal S256x3072 .bf16 :=
  fun z => rowGate (unitRow (fun k => x0 (ix2 (z 0) k)) (fun k => x1 (ix2 0 k))) (fun k c => x2 (ix2 k c)) (z 1)

/-- One of the six stores of gates, at its columns. -/
theorem gate_piece (o : ℕ) (ho : o ≤ 2560) (p : ℕ) (hp : p = 4608 + o) (inb) (inb') (y : S256x512.Idx) :
    k0_pay26 (k0_pay31 (F := Ideal) x0 x1 x2 x3 x4 x5 x6 x7) (View.ld x2 (Rect.unit (s := S1024x7680) ![0, p] S1024x512.size inb)) y
      = gateBlock x0 x1 x2 ((Rect.unit (s := S256x3072) ![0, o] S256x512.size inb').idx y) := by
  subst hp
  obtain ⟨r, c, rfl⟩ : ∃ (r : Fin 256) (c : Fin 512), y = ix2 r c := ⟨y 0, y 1, eq_ix2 y⟩
  have e : (Rect.unit (s := S256x3072) ![0, o] S256x512.size inb').idx (ix2 r c) = (ix2 r ⟨o + c.val, by omega⟩ : S256x3072.Idx) := by
    funext a
    apply Fin.ext
    match a with
    | ⟨0, _⟩ => show 0 + 1 * r.val = r.val; omega
    | ⟨1, _⟩ => show o + 1 * c.val = o + c.val; omega
  rw [gates_at, e]
  show _ = rowGate (unitRow (fun k => x0 (ix2 r k)) (fun k => x1 (ix2 0 k))) (fun k c => x2 (ix2 k c)) ⟨o + c.val, _⟩
  rw [rowGate, ← rows_eq (x2 := x2) (x3 := x3) (x4 := x4) (x5 := x5) (x6 := x6) (x7 := x7) r]
  congr 1
  refine Finset.sum_congr rfl fun k _ => ?_
  rw [load_columns x2 (4608 + o) inb k c (by omega)]
  congr 3
  apply Fin.ext
  show 4608 + o + c.val = 4608 + (o + c.val)
  omega

/-- The gates. -/
theorem out17_at (r : Fin 256) (c : Fin 3072) : out0_17 (F := Ideal) x0 x1 x2 x3 x4 x5 x6 x7 (ix2 r c)
    = rowGate (unitRow (fun k => x0 (ix2 r k)) (fun k => x1 (ix2 0 k))) (fun k c => x2 (ix2 k c)) c := by
  rw [out0_17]
  refine View.canon_apply_of_pieces (gateBlock x0 x1 x2) _ ?_
    (ix2 r c) (cover0_17 _ _ _ _ _ _ _)
  simp only [List.forall_mem_cons, List.not_mem_nil, false_imp_iff, implies_true, and_true]
  exact ⟨fun y => gate_piece 2560 (by decide) 7168 rfl _ _ y, fun y => gate_piece 2048 (by decide) 6656 rfl _ _ y,
    fun y => gate_piece 1536 (by decide) 6144 rfl _ _ y, fun y => gate_piece 1024 (by decide) 5632 rfl _ _ y,
    fun y => gate_piece 512 (by decide) 5120 rfl _ _ y, fun y => gate_piece 0 (by decide) 4608 rfl _ _ y⟩

end Cert.Projection

end
-- ==== Proof.ProjectionHost.lean ====
/-
  What the host lines before the input projection's launch leave in the arrays that the launch reads: the tables of the
  turns, the table of heads, the rows of gains, the first gains and the weights.
-/
module

public import proofs.«01_k».proof.Proof.ProjectionBody
public import Idealize.ShloMosaic.Lib.Claim
public import Idealize.ShloMosaic.Lib.StableHlo.ReadAt
public import Idealize.ShloMosaic.Lib.Routing.OpsSet

@[expose] public section

set_option maxRecDepth 16384

noncomputable section

namespace Cert.Projection

open Cert.Kernel2Ideal Cert.Kernel2Ideal.Gen Idealize.ShloMosaic Idealize.ShloMosaic.TcCoe Idealize.SL.Sem Finset

variable (m : (ℓ : Loc nD τ sig) → Buf (Elt Ideal) ℓ) (c : Dev nD)

/-- The launch finds the weights as they are given. -/
theorem host_weights (k : Fin 1024) (j : Fin 7680) : (V m c main_v66 (ix2 k j) : EReal) = m (c.tc.loc main_arg2) (ix2 k j) := by
  unfold V
  after_reads_at

/-- The launch finds the first gains as a row. -/
theorem host_gain (k : Fin 1024) : (V m c main_v65 (ix2 0 k) : EReal) = m (c.tc.loc main_arg1) (ix1 k) := by
  unfold V
  after_reads_at

/-- The launch finds the cosines on both halves of the pairs and ones elsewhere. -/
theorem host_cosines (s : Fin 8192) (l : Fin 128) : @Eq EReal (V m c main_v29 (ix2 s l))
    (if l.val % 64 < 16 then Ideal.cos (angle s.val (l.val % 64 % 8)) else 1) := by
  by_cases h : l.val % 64 < 8
  · rw [if_pos (by omega), Nat.mod_eq_of_lt h]
    unfold V
    after_reads_at
    rw [dif_pos h]
    after_reads_at
    all_goals try split_ifs
    all_goals rfl
  · by_cases h' : l.val % 64 - 8 < 8
    · rw [if_pos (by omega), show l.val % 64 % 8 = l.val % 64 - 8 by omega]
      unfold V
      after_reads_at
      rw [dif_neg h, dif_pos h']
      after_reads_at
      all_goals try split_ifs
      all_goals rfl
    · rw [if_neg (by omega)]
      unfold V
      after_reads_at
      rw [dif_neg h, dif_neg h']
      after_reads_at
      all_goals try split_ifs
      all_goals rfl

/-- The launch finds the sines less zero on the first halves of the pairs and zeros elsewhere. -/
theorem host_firsts (s : Fin 8192) (l : Fin 128) : @Eq EReal (V m c main_v32 (ix2 s l))
    (if l.val % 64 < 8 then -Ideal.sin (angle s.val (l.val % 64 % 8)) else 0) := by
  by_cases h : l.val % 64 < 8
  · rw [if_pos h, Nat.mod_eq_of_lt h]
    unfold V
    after_reads_at
    rw [dif_pos h]
    after_reads_at
    all_goals try split_ifs
    all_goals rfl
  · rw [if_neg h]
    unfold V
    after_reads_at
    rw [dif_neg h]
    after_reads_at

/-- The launch finds the sines on the second halves of the pairs and zeros elsewhere. -/
theorem host_seconds (s : Fin 8192) (l : Fin 128) : @Eq EReal (V m c main_v35 (ix2 s l))
    (if 8 ≤ l.val % 64 ∧ l.val % 64 < 16 then Ideal.sin (angle s.val (l.val % 64 % 8)) else 0) := by
  by_cases h : l.val % 64 < 8
  · rw [if_neg (by omega)]
    unfold V
    after_reads_at
    rw [dif_pos h]
    after_reads_at
  · by_cases h' : l.val % 64 - 8 < 8
    · rw [if_pos (by omega), show l.val % 64 % 8 = l.val % 64 - 8 by omega]
      unfold V
      after_reads_at
      rw [dif_neg h, dif_pos h']
      after_reads_at
      all_goals try split_ifs
      all_goals rfl
    · rw [if_neg (by omega)]
      unfold V
      after_reads_at
      rw [dif_neg h, dif_neg h']
      after_reads_at

/-- A column's head, as the host lines compute it. -/
def headWord (k : ℕ) : BitVec 32 :=
  Scalar.select
    (IntOp.andi
      (IntOp.cmpi CmpIPredicate.ne
        (if BitVec.ofNat 32 k = 0 then 0 else if (BitVec.ofNat 32 k).msb = true then -1 else 1 : BitVec 32)
        (if (64#32) = 0 then 0 else if (64#32).msb = true then -1 else 1 : BitVec 32))
      (IntOp.cmpi CmpIPredicate.ne (IntOp.remsi ArithUnit.host (BitVec.ofNat 32 k) 64#32) 0#32))
    (IntOp.subi (IntOp.divsi ArithUnit.host (BitVec.ofNat 32 k) 64#32) 1#32)
    (IntOp.divsi ArithUnit.host (BitVec.ofNat 32 k) 64#32)

theorem headWord_eq (k : Fin 256) : headWord k.val = BitVec.ofNat 32 (k.val / 64) := by
  revert k
  decide +kernel

theorem same_head (a b : Fin 4) : IntOp.cmpi CmpIPredicate.eq (BitVec.ofNat 32 a.val) (BitVec.ofNat 32 b.val) = if a.val = b.val then 1#1 else 0#1 := by
  revert a b
  decide +kernel

/-- The launch finds ones where row and column lie in the same head and zeros elsewhere. -/
theorem host_groups (k j : Fin 256) : @Eq EReal (V m c main_v43 (ix2 k j)) (if k.val / 64 = j.val / 64 then 1 else 0) := by
  unfold V
  after_reads_at
  show FloatOps.uitofp (F := Ideal) FTy.bf16 (IntOp.cmpi CmpIPredicate.eq (headWord k.val) (headWord j.val)) = _
  have h : IntOp.cmpi CmpIPredicate.eq (headWord k.val) (headWord j.val) = if k.val / 64 = j.val / 64 then 1#1 else 0#1 := by
    rw [headWord_eq, headWord_eq]
    exact same_head ⟨k.val / 64, by omega⟩ ⟨j.val / 64, by omega⟩
  rw [h]
  split
  · show (((1#1 : BitVec 1).toNat : ℝ) : EReal) = 1
    simp
  · show (((0#1 : BitVec 1).toNat : ℝ) : EReal) = 0
    simp

/-- A vector of 512 set into row `w` of a table leaves the vector on that row and the table elsewhere. -/
theorem set_row (x : S8x512.Idx → EReal) (idx : IVec S1 32) (u : S512.Idx → EReal) (w : ℕ) (h0 : (idx (ix1 0)).toInt = w)
    (r : Fin 8) (l : Fin 512) :
    Host.scatter scatter_S8x512_S1_S512_0_0_0_0 (fun _ b => b) x idx u (ix2 r l) = if r.val = w then u (ix1 l) else x (ix2 r l) := by
  have lands (k : Fin 512) : scatter_S8x512_S1_S512_0_0_0_0.resultIdx? (ix1 k) idx = some (ix2 r l) ↔ (w = r.val ∧ k.val = l.val) := by
    have s0 : scatter_S8x512_S1_S512_0_0_0_0.start (ix1 k) idx 0 = (idx (ix1 0)).toInt := by
      unfold ScatterDims.start
      rw [dif_pos (by decide)]
      congr 2
      funext a
      match a with
      | ⟨0, _⟩ => rfl
    have s1 : scatter_S8x512_S1_S512_0_0_0_0.start (ix1 k) idx 1 = 0 := by
      unfold ScatterDims.start
      rw [dif_neg (by decide)]
    have w0 : scatter_S8x512_S1_S512_0_0_0_0.window (ix1 k) 0 = 0 := rfl
    have w1 : scatter_S8x512_S1_S512_0_0_0_0.window (ix1 k) 1 = k.val := rfl
    have g : scatter_S8x512_S1_S512_0_0_0_0.resultIdx? (ix1 k) idx = some (ix2 r l) ↔ _ := Routing.resultIdx?_ix2 scatter_S8x512_S1_S512_0_0_0_0 (ix1 k) idx r l
    rw [s0, s1, w0, w1, h0] at g
    rw [g]
    omega
  split
  · next h =>
    refine Routing.scatter_set_hit _ _ _ _ _ _ (fun k hk => ?_) (ix1 l) ((lands _).2 ⟨h.symm, rfl⟩)
    obtain ⟨k, rfl⟩ : ∃ a, k = ix1 a := ⟨k 0, eq_ix1 k⟩
    have := ((lands k).1 hk).2
    congr 2
    exact Fin.ext this
  · next h =>
    refine Routing.scatter_set_miss _ _ _ _ _ fun k hk => ?_
    obtain ⟨k, rfl⟩ : ∃ a, k = ix1 a := ⟨k 0, eq_ix1 k⟩
    have := (lands k).1 hk
    exact h this.1.symm

/-- Sixty-four gains repeated for eight heads are read at a column's place in its head. -/
theorem repeated_at (x : S64.Idx → EReal) (c : Fin 512) :
    shapeCast S512 (broadcastInDim S8x64 ![0, 1] bcast_S1x64_S8x64_0_1 (shapeCast S1x64 x shapeCasts_S64_S1x64)) shapeCasts_S8x64_S512 (ix1 c)
      = x (ix1 (lane c)) := by
  pointwise
  rfl

/-- The launch finds the four vectors of gains on the first four rows of a table, repeated for each head. -/
theorem host_gains (i : Fin 4) (l : Fin 512) : @Eq EReal (V m c main_v64 (ix2 ⟨i.val, by omega⟩ l))
    (match i with
      | ⟨0, _⟩ => m (c.tc.loc main_arg3) (ix1 (lane l))
      | ⟨1, _⟩ => m (c.tc.loc main_arg4) (ix1 (lane l))
      | ⟨2, _⟩ => m (c.tc.loc main_arg5) (ix1 (lane l))
      | ⟨3, _⟩ => m (c.tc.loc main_arg6) (ix1 (lane l))) := by
  unfold V
  after_reads_simp
  rw [set_row _ _ _ 3 (by rfl), set_row _ _ _ 2 (by rfl), set_row _ _ _ 1 (by rfl), set_row _ _ _ 0 (by rfl)]
  match i with
  | ⟨0, _⟩ =>
    rw [if_neg (by decide : ¬(0 = 3)), if_neg (by decide : ¬(0 = 2)), if_neg (by decide : ¬(0 = 1)), if_pos rfl]
    exact repeated_at _ _
  | ⟨1, _⟩ =>
    rw [if_neg (by decide : ¬(1 = 3)), if_neg (by decide : ¬(1 = 2)), if_pos rfl]
    exact repeated_at _ _
  | ⟨2, _⟩ =>
    rw [if_neg (by decide : ¬(2 = 3)), if_pos rfl]
    exact repeated_at _ _
  | ⟨3, _⟩ =>
    rw [if_pos rfl]
    exact repeated_at _ _

end Cert.Projection

end
-- ==== Proof.ProjectionBlocks.lean ====
/-
  The blocks that the input projection's grid points read, and what the points compute from them.
-/
module

public import proofs.«01_k».proof.Proof.ProjectionHost
public import proofs.«01_k».proof.Proof.Gen.Kernel2Ideal.Value

@[expose] public section

set_option maxRecDepth 16384

noncomputable section

namespace Cert.Projection

open Cert.Kernel2Ideal Cert.Kernel2Ideal.Gen Idealize.ShloMosaic Idealize.ShloMosaic.TcCoe Idealize.SL.Sem Finset
open Idealize.ShloMosaic.Pipeline (Dat)

variable (m : (ℓ : Loc nD τ sig) → Buf (Elt Ideal) ℓ) (c : Dev nD)

/-- The block that a point takes of the rows, of the tables that all points share, and of the tables of the turns. -/
theorem index_eq (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val % 32 ∧ win0_5.index t 1 = 0) ∧ (win0_6.index t 0 = t.val % 32 ∧ win0_6.index t 1 = 0)
    ∧ (win0_7.index t 0 = t.val % 32 ∧ win0_7.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val % 32 ∧ win0_5.index t 1 = 0) ∧ (win0_6.index t 0 = t.val % 32 ∧ win0_6.index t 1 = 0)
    ∧ (win0_7.index t 0 = t.val % 32 ∧ win0_7.index t 1 = 0)) t

/-- There are 64 grid points. -/
theorem point_lt (t : Fin cfg0.N) : t.val < 64 := by have h : cfg0.N = 64 := N_0; have := t.isLt; omega

/-- A place in a block, from the block's number along each axis. -/
theorem place {n k : ℕ} (i : (⟨2, ![n, k]⟩ : Shape).Idx) (r : Fin n) (l : Fin k) (h0 : (i 0).val = r.val) (h1 : (i 1).val = l.val) : i = ix2 r l := by
  funext a
  apply Fin.ext
  match a with
  | ⟨0, _⟩ => exact h0
  | ⟨1, _⟩ => exact h1

/-- A point reads 256 rows. -/
theorem read_rows (t : Fin cfg0.N) (r : Fin 256) (l : Fin 1024) :
    (iblk m c 0 t : Vec Ideal S256x1024 .f32) (ix2 r l) = m (c.tc.loc main_arg0) (ix2 ⟨t.val * 256 + r.val, by have := point_lt t; omega⟩ l) := by
  unfold iblk
  rw [View.read_apply]
  show V m c main_arg0 _ = _
  rw [V_main_arg0]
  refine congrArg (m (c.tc.loc main_arg0)) (place _ _ _ ?_ ?_)
  · show win0_0.index t 0 * 256 + 1 * r.val = t.val * 256 + r.val
    rw [(index_eq t).1.1]; omega
  · show win0_0.index t 1 * 1024 + 1 * l.val = l.val
    rw [(index_eq t).1.2]; omega

/-- Every point reads all first gains. -/
theorem read_gain (t : Fin cfg0.N) (l : Fin 1024) : (iblk m c 1 t : Vec Ideal S1x1024 .f32) (ix2 0 l) = V m c main_v65 (ix2 0 l) := by
  unfold iblk
  rw [View.read_apply]
  refine congrArg (V m c main_v65) (place _ _ _ ?_ ?_)
  · show win0_1.index t 0 * 1 + 1 * 0 = 0
    rw [(index_eq t).2.1.1]
  · show win0_1.index t 1 * 1024 + 1 * l.val = l.val
    rw [(index_eq t).2.1.2]; omega

/-- Every point reads all weights. -/
theorem read_weights (t : Fin cfg0.N) (k : Fin 1024) (l : Fin 7680) : (iblk m c 2 t : Vec Ideal S1024x7680 .bf16) (ix2 k l) = V m c main_v66 (ix2 k l) := by
  unfold iblk
  rw [View.read_apply]
  refine congrArg (V m c main_v66) (place _ _ _ ?_ ?_)
  · show win0_2.index t 0 * 1024 + 1 * k.val = k.val
    rw [(index_eq t).2.2.1.1]; omega
  · show win0_2.index t 1 * 7680 + 1 * l.val = l.val
    rw [(index_eq t).2.2.1.2]; omega

/-- Every point reads the whole table of gains. -/
theorem read_gains (t : Fin cfg0.N) (k : Fin 8) (l : Fin 512) : (iblk m c 3 t : Vec Ideal S8x512 .f32) (ix2 k l) = V m c main_v64 (ix2 k l) := by
  unfold iblk
  rw [View.read_apply]
  refine congrArg (V m c main_v64) (place _ _ _ ?_ ?_)
  · show win0_3.index t 0 * 8 + 1 * k.val = k.val
    rw [(index_eq t).2.2.2.1.1]; omega
  · show win0_3.index t 1 * 512 + 1 * l.val = l.val
    rw [(index_eq t).2.2.2.1.2]; omega

/-- Every point reads the whole table of heads. -/
theorem read_groups (t : Fin cfg0.N) (k l : Fin 256) : (iblk m c 4 t : Vec Ideal S256x256 .bf16) (ix2 k l) = V m c main_v43 (ix2 k l) := by
  unfold iblk
  rw [View.read_apply]
  refine congrArg (V m c main_v43) (place _ _ _ ?_ ?_)
  · show win0_4.index t 0 * 256 + 1 * k.val = k.val
    rw [(index_eq t).2.2.2.2.1.1]; omega
  · show win0_4.index t 1 * 256 + 1 * l.val = l.val
    rw [(index_eq t).2.2.2.2.1.2]; omega

/-- A point reads its positions' cosines. -/
theorem read_cosines (t : Fin cfg0.N) (r : Fin 256) (l : Fin 128) :
    (iblk m c 5 t : Vec Ideal S256x128 .f32) (ix2 r l) = V m c main_v29 (ix2 ⟨t.val % 32 * 256 + r.val, by omega⟩ l) := by
  unfold iblk
  rw [View.read_apply]
  refine congrArg (V m c main_v29) (place _ _ _ ?_ ?_)
  · show win0_5.index t 0 * 256 + 1 * r.val = t.val % 32 * 256 + r.val
    rw [(index_eq t).2.2.2.2.2.1.1]; omega
  · show win0_5.index t 1 * 128 + 1 * l.val = l.val
    rw [(index_eq t).2.2.2.2.2.1.2]; omega

/-- A point reads its positions' sines for the first halves. -/
theorem read_firsts (t : Fin cfg0.N) (r : Fin 256) (l : Fin 128) :
    (iblk m c 6 t : Vec Ideal S256x128 .f32) (ix2 r l) = V m c main_v32 (ix2 ⟨t.val % 32 * 256 + r.val, by omega⟩ l) := by
  unfold iblk
  rw [View.read_apply]
  refine congrArg (V m c main_v32) (place _ _ _ ?_ ?_)
  · show win0_6.index t 0 * 256 + 1 * r.val = t.val % 32 * 256 + r.val
    rw [(index_eq t).2.2.2.2.2.2.1.1]; omega
  · show win0_6.index t 1 * 128 + 1 * l.val = l.val
    rw [(index_eq t).2.2.2.2.2.2.1.2]; omega

/-- A point reads its positions' sines for the second halves. -/
theorem read_seconds (t : Fin cfg0.N) (r : Fin 256) (l : Fin 128) :
    (iblk m c 7 t : Vec Ideal S256x128 .f32) (ix2 r l) = V m c main_v35 (ix2 ⟨t.val % 32 * 256 + r.val, by omega⟩ l) := by
  unfold iblk
  rw [View.read_apply]
  refine congrArg (V m c main_v35) (place _ _ _ ?_ ?_)
  · show win0_7.index t 0 * 256 + 1 * r.val = t.val % 32 * 256 + r.val
    rw [(index_eq t).2.2.2.2.2.2.2.1]; omega
  · show win0_7.index t 1 * 128 + 1 * l.val = l.val
    rw [(index_eq t).2.2.2.2.2.2.2.2]; omega

/-- The table of heads, as a point finds it. -/
theorem groups_at (t : Fin cfg0.N) : IsGroups (iblk m c 4 t : Vec Ideal S256x256 .bf16) := fun k j =>
  (read_groups m c t k j).trans (host_groups m c k j)

/-- The tables of the turns, as a point finds them. -/
theorem turns_at (t : Fin cfg0.N) : IsTurns (iblk m c 5 t : Vec Ideal S256x128 .f32) (iblk m c 6 t : Vec Ideal S256x128 .f32) (iblk m c 7 t : Vec Ideal S256x128 .f32)
    (fun r j => Ideal.cos (angle (t.val % 32 * 256 + r.val) j.val)) (fun r j => Ideal.sin (angle (t.val % 32 * 256 + r.val) j.val)) where
  cosines r l := (read_cosines m c t r l).trans (host_cosines m c _ l)
  firsts r l := (read_firsts m c t r l).trans (host_firsts m c _ l)
  seconds r l := (read_seconds m c t r l).trans (host_seconds m c _ l)

/-- The gains, as a point finds them. -/
theorem gains_at (t : Fin cfg0.N) (i : Fin 4) (l : Fin 512) : @Eq EReal ((iblk m c 3 t : Vec Ideal S8x512 .f32) (ix2 ⟨i.val, by omega⟩ l))
    (gainsOf (m (c.tc.loc main_arg3)) (m (c.tc.loc main_arg4)) (m (c.tc.loc main_arg5)) (m (c.tc.loc main_arg6)) i (lane l)) := by
  rw [read_gains m c t ⟨i.val, by omega⟩ l, host_gains m c i l]
  match i with
  | ⟨0, _⟩ => rfl
  | ⟨1, _⟩ => rfl
  | ⟨2, _⟩ => rfl
  | ⟨3, _⟩ => rfl

/-- The array of one of the nine results of 512 columns. -/
def whole (n : Fin 9) : Vec Ideal S16384x512 .bf16 := fun y =>
  outOf n (m (c.tc.loc main_arg0)) (m (c.tc.loc main_arg1)) (m (c.tc.loc main_arg2)) (m (c.tc.loc main_arg3))
    (m (c.tc.loc main_arg4)) (m (c.tc.loc main_arg5)) (m (c.tc.loc main_arg6)) (y 0) (y 1)

/-- The array of the gates. -/
def gates : Vec Ideal S16384x3072 .bf16 := fun y =>
  gateOf (m (c.tc.loc main_arg0)) (m (c.tc.loc main_arg1)) (m (c.tc.loc main_arg2)) (y 0) (y 1)

/-- A point's normed rows. -/
theorem row_eq (t : Fin cfg0.N) (r : Fin 256) : (unitRow (fun k => (iblk m c 0 t : Vec Ideal S256x1024 .f32) (ix2 r k)) (fun k => (iblk m c 1 t : Vec Ideal S1x1024 .f32) (ix2 0 k)))
    = unitRow (fun k => m (c.tc.loc main_arg0) (ix2 ⟨t.val * 256 + r.val, by have := point_lt t; omega⟩ k)) (fun k => m (c.tc.loc main_arg1) (ix1 k)) := by
  congr 1
  · funext k; exact read_rows m c t r k
  · funext k; exact (read_gain m c t k).trans (host_gain m c k)

/-- A point's weights. -/
theorem weights_eq (t : Fin cfg0.N) : (fun (k : Fin 1024) (j : Fin 7680) => ((iblk m c 2 t : Vec Ideal S1024x7680 .bf16) (ix2 k j) : EReal))
    = fun k j => m (c.tc.loc main_arg2) (ix2 k j) := by
  funext k j
  exact (read_weights m c t k j).trans (host_weights m c k j)

/-- What a point computes at a row and a column of a result is that result's element. -/
theorem point_eq (n : Fin 9) (t : Fin cfg0.N) (r : Fin 256) (l : Fin 512) :
    rowOut n (unitRow (fun k => (iblk m c 0 t : Vec Ideal S256x1024 .f32) (ix2 r k)) (fun k => (iblk m c 1 t : Vec Ideal S1x1024 .f32) (ix2 0 k)))
      (fun k j => (iblk m c 2 t : Vec Ideal S1024x7680 .bf16) (ix2 k j))
      (gainsOf (m (c.tc.loc main_arg3)) (m (c.tc.loc main_arg4)) (m (c.tc.loc main_arg5)) (m (c.tc.loc main_arg6)))
      (fun j => Ideal.cos (angle (t.val % 32 * 256 + r.val) j.val)) (fun j => Ideal.sin (angle (t.val % 32 * 256 + r.val) j.val)) l
      = whole m c n (ix2 ⟨t.val * 256 + r.val, by have := point_lt t; omega⟩ l) := by
  have ht := point_lt t
  have e : t.val % 32 * 256 + r.val = (t.val * 256 + r.val) % 8192 := by omega
  rw [row_eq, e]
  rw [weights_eq]
  rfl

/-- What a point computes at a row and a column of the gates is that gate. -/
theorem gate_eq (t : Fin cfg0.N) (r : Fin 256) (l : Fin 3072) :
    rowGate (unitRow (fun k => (iblk m c 0 t : Vec Ideal S256x1024 .f32) (ix2 r k)) (fun k => (iblk m c 1 t : Vec Ideal S1x1024 .f32) (ix2 0 k)))
      (fun k j => (iblk m c 2 t : Vec Ideal S1024x7680 .bf16) (ix2 k j)) l = gates m c (ix2 ⟨t.val * 256 + r.val, by have := point_lt t; omega⟩ l) := by
  rw [row_eq, weights_eq]
  rfl

/-- The place in a result's array of a place in a point's block. -/
theorem out_place {k : ℕ} (t : Fin cfg0.N) (r : Fin 256) (l : Fin k) (i : (⟨2, ![16384, k]⟩ : Shape).Idx)
    (h0 : (i 0).val = win0_0.index t 0 * 256 + 1 * r.val) (h1 : (i 1).val = win0_0.index t 1 * k + 1 * l.val) :
    ix2 ⟨t.val * 256 + r.val, by have := point_lt t; omega⟩ l = i := by
  refine (place _ _ _ (h0.trans ?_) (h1.trans ?_)).symm
  · rw [(index_eq t).1.1, one_mul]
  · rw [(index_eq t).1.2, zero_mul, one_mul, zero_add]

end Cert.Projection

end
-- ==== Proof.ProjectionValue.lean ====
/-
  The input projection's result arrays: the blocks that the grid's points read and write back, put together over the
  whole arrays.
-/
module

public import proofs.«01_k».proof.Proof.ProjectionBlocks

@[expose] public section

set_option maxRecDepth 16384

noncomputable section

namespace Cert.Projection

open Cert.Kernel2Ideal Cert.Kernel2Ideal.Gen Idealize.ShloMosaic Idealize.ShloMosaic.TcCoe Idealize.SL.Sem Finset
open Idealize.ShloMosaic.Pipeline (Dat)

variable (m : (ℓ : Loc nD τ sig) → Buf (Elt Ideal) ℓ) (c : Dev nD)

/-- A statement about the places of a block holds if it holds at every row and column. -/
theorem at_places {k : ℕ} {P : (⟨2, ![256, k]⟩ : Shape).Idx → Prop} (h : ∀ (r : Fin 256) (l : Fin k), P (ix2 r l)) : ∀ y, P y := fun y => by
  rw [eq_ix2 y]
  exact h _ _

/-- The four vectors of gains by which the heads are scaled. -/
def headGains : Fin 4 → Fin 64 → EReal :=
  gainsOf (m (c.tc.loc main_arg3)) (m (c.tc.loc main_arg4)) (m (c.tc.loc main_arg5)) (m (c.tc.loc main_arg6))

/-- The cosines of a point's rows. -/
def rowCos (t : Fin cfg0.N) (r : Fin 256) (j : Fin 8) : EReal := Ideal.cos (angle (t.val % 32 * 256 + r.val) j.val)

/-- The sines of a point's rows. -/
def rowSin (t : Fin cfg0.N) (r : Fin 256) (j : Fin 8) : EReal := Ideal.sin (angle (t.val % 32 * 256 + r.val) j.val)

/-- The first mechanism's queries, over the whole array. -/
theorem final8 : (dats m 0 c).arrAt 8 cfg0.N = whole m c 0 :=
  (dats m 0 c).arrAt_eq_of_covers 8 _ (by decide +kernel) fun t _ => at_places (k := 512) fun r l =>
    (congrFun (after0_8 m c t) (ix2 r l)).trans <| ((out8_at (groups_at m c t) (turns_at m c t) (gains_at m c t) r l).trans (point_eq m c 0 t r l)).trans
      (congrArg (whole m c 0) (out_place t r l _ rfl rfl))

/-- The first mechanism's keys, over the whole array. -/
theorem final9 : (dats m 0 c).arrAt 9 cfg0.N = whole m c 1 :=
  (dats m 0 c).arrAt_eq_of_covers 9 _ (by decide +kernel) fun t _ => at_places (k := 512) fun r l =>
    (congrFun (after0_9 m c t) (ix2 r l)).trans <| ((out9_at (groups_at m c t) (turns_at m c t) (gains_at m c t) r l).trans (point_eq m c 1 t r l)).trans
      (congrArg (whole m c 1) (out_place t r l _ rfl rfl))

/-- The first mechanism's values, over the whole array. -/
theorem final10 : (dats m 0 c).arrAt 10 cfg0.N = whole m c 2 :=
  (dats m 0 c).arrAt_eq_of_covers 10 _ (by decide +kernel) fun t _ => at_places (k := 512) fun r l =>
    (congrFun (after0_10 m c t) (ix2 r l)).trans <| ((out10_at (g := headGains m c) (co := rowCos t) (si := rowSin t) r l).trans (point_eq m c 2 t r l)).trans
      (congrArg (whole m c 2) (out_place t r l _ rfl rfl))

/-- The second mechanism's queries, over the whole array. -/
theorem final11 : (dats m 0 c).arrAt 11 cfg0.N = whole m c 3 :=
  (dats m 0 c).arrAt_eq_of_covers 11 _ (by decide +kernel) fun t _ => at_places (k := 512) fun r l =>
    (congrFun (after0_11 m c t) (ix2 r l)).trans <| ((out11_at (co := rowCos t) (si := rowSin t) (groups_at m c t) (gains_at m c t) r l).trans (point_eq m c 3 t r l)).trans
      (congrArg (whole m c 3) (out_place t r l _ rfl rfl))

/-- The second mechanism's keys, over the whole array. -/
theorem final12 : (dats m 0 c).arrAt 12 cfg0.N = whole m c 4 :=
  (dats m 0 c).arrAt_eq_of_covers 12 _ (by decide +kernel) fun t _ => at_places (k := 512) fun r l =>
    (congrFun (after0_12 m c t) (ix2 r l)).trans <| ((out12_at (co := rowCos t) (si := rowSin t) (groups_at m c t) (gains_at m c t) r l).trans (point_eq m c 4 t r l)).trans
      (congrArg (whole m c 4) (out_place t r l _ rfl rfl))

/-- The second mechanism's values, over the whole array. -/
theorem final13 : (dats m 0 c).arrAt 13 cfg0.N = whole m c 5 :=
  (dats m 0 c).arrAt_eq_of_covers 13 _ (by decide +kernel) fun t _ => at_places (k := 512) fun r l =>
    (congrFun (after0_13 m c t) (ix2 r l)).trans <| ((out13_at (g := headGains m c) (co := rowCos t) (si := rowSin t) r l).trans (point_eq m c 5 t r l)).trans
      (congrArg (whole m c 5) (out_place t r l _ rfl rfl))

/-- The third mechanism's queries, over the whole array. -/
theorem final14 : (dats m 0 c).arrAt 14 cfg0.N = whole m c 6 :=
  (dats m 0 c).arrAt_eq_of_covers 14 _ (by decide +kernel) fun t _ => at_places (k := 512) fun r l =>
    (congrFun (after0_14 m c t) (ix2 r l)).trans <| ((out14_at (g := headGains m c) (co := rowCos t) (si := rowSin t) r l).trans (point_eq m c 6 t r l)).trans
      (congrArg (whole m c 6) (out_place t r l _ rfl rfl))

/-- The third mechanism's keys, over the whole array. -/
theorem final15 : (dats m 0 c).arrAt 15 cfg0.N = whole m c 7 :=
  (dats m 0 c).arrAt_eq_of_covers 15 _ (by decide +kernel) fun t _ => at_places (k := 512) fun r l =>
    (congrFun (after0_15 m c t) (ix2 r l)).trans <| ((out15_at (g := headGains m c) (co := rowCos t) (si := rowSin t) r l).trans (point_eq m c 7 t r l)).trans
      (congrArg (whole m c 7) (out_place t r l _ rfl rfl))

/-- The third mechanism's values, over the whole array. -/
theorem final16 : (dats m 0 c).arrAt 16 cfg0.N = whole m c 8 :=
  (dats m 0 c).arrAt_eq_of_covers 16 _ (by decide +kernel) fun t _ => at_places (k := 512) fun r l =>
    (congrFun (after0_16 m c t) (ix2 r l)).trans <| ((out16_at (g := headGains m c) (co := rowCos t) (si := rowSin t) r l).trans (point_eq m c 8 t r l)).trans
      (congrArg (whole m c 8) (out_place t r l _ rfl rfl))

/-- The gates, over the whole array. -/
theorem final17 : (dats m 0 c).arrAt 17 cfg0.N = gates m c :=
  (dats m 0 c).arrAt_eq_of_covers 17 _ (by decide +kernel) fun t _ => at_places (k := 3072) fun r l =>
    (congrFun (after0_17 m c t) (ix2 r l)).trans <| ((out17_at r l).trans (gate_eq m c t r l)).trans
      (congrArg (gates m c) (out_place t r l _ rfl rfl))

set_option maxHeartbeats 2000000 in
/-- The launch leaves the ten arrays, and its arguments as they were. -/
theorem run_whole (ρ : Dev nD → PrngReg) :
    θ_run (defs (F := Ideal)) (onTc (τ := τ) (main (F := Ideal))) ⟨m, fun _ => 0, ρ⟩ fun r => ∀ c : Dev nD,
      r.2.mem ((c : Thread nD τ).loc main_v67_0) = whole m c 0
      ∧ r.2.mem ((c : Thread nD τ).loc main_v67_1) = whole m c 1
      ∧ r.2.mem ((c : Thread nD τ).loc main_v67_2) = whole m c 2
      ∧ r.2.mem ((c : Thread nD τ).loc main_v67_3) = whole m c 3
      ∧ r.2.mem ((c : Thread nD τ).loc main_v67_4) = whole m c 4
      ∧ r.2.mem ((c : Thread nD τ).loc main_v67_5) = whole m c 5
      ∧ r.2.mem ((c : Thread nD τ).loc main_v67_6) = whole m c 6
      ∧ r.2.mem ((c : Thread nD τ).loc main_v67_7) = whole m c 7
      ∧ r.2.mem ((c : Thread nD τ).loc main_v67_8) = whole m c 8
      ∧ r.2.mem ((c : Thread nD τ).loc main_v67_9) = gates m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run _ _ _).mono (fun r h c => ?_) (Value.run_blocks (F := Ideal) m ρ)
  obtain ⟨h0, h1, h2, h3, h4, h5, h6, h7, h8, h9, hr⟩ := h c
  exact ⟨h0.trans (final8 m c), h1.trans (final9 m c), h2.trans (final10 m c), h3.trans (final11 m c), h4.trans (final12 m c),
    h5.trans (final13 m c), h6.trans (final14 m c), h7.trans (final15 m c), h8.trans (final16 m c), h9.trans (final17 m c), hr⟩

end Cert.Projection

end
-- ==== Proof.ProjectionPlain.lean ====
/-
  What the plain input projection computes: its ten results at a row and a column are the results that the specification
  names.
-/
module

public import proofs.«01_k».proof.Proof.ProjectionSpec
public import proofs.«01_k».proof.Proof.Gen.Reference2Ideal.Run
public import Idealize.ShloMosaic.Lib.Pointwise

@[expose] public section

set_option maxRecDepth 16384

noncomputable section

namespace Cert.Projection.Plain

open Cert.Reference2Ideal Cert.Reference2Ideal.Gen Cert.Reference2Ideal.Value Idealize.ShloMosaic Idealize.ShloMosaic.TcCoe Idealize.SL.Sem Idealize.ShloMosaic.StableHlo Finset

/-- Rows of 512 columns as sequences of heads. -/
def headsOf (p : FVec Ideal S16384x512 .f32) : FVec Ideal S2x8x8192x64 .f32 :=
  transpose S2x8x8192x64 [0, 2, 1, 3] (shapeCast S2x8192x8x64 p shapeCasts_S16384x512_S2x8192x8x64) transposes_S2x8192x8x64_S2x8x8192x64_0_2_1_3

/-- Sequences of heads as rows of 512 columns. -/
def rowsOf (z : FVec Ideal S2x8x8192x64 .f32) : FVec Ideal S16384x512 .f32 :=
  shapeCast S16384x512 (transpose S2x8192x8x64 [0, 2, 1, 3] z transposes_S2x8x8192x64_S2x8192x8x64_0_2_1_3) shapeCasts_S2x8192x8x64_S16384x512

/-- The plain head norm. -/
def normedHeads (y : FVec Ideal S2x8x8192x64 .f32) (g : FVec Ideal S64 .f32) : FVec Ideal S2x8x8192x64 .f32 :=
  mulf (mulf y (broadcastInDim S2x8x8192x64 ![0, 1, 2, 3] bcast_S2x8x8192x1_S2x8x8192x64_0_1_2_3 (Host.rsqrt (addf (Host.divf (broadcastInDim S2x8x8192x1 ![0, 1, 2] bcast_S2x8x8192_S2x8x8192x1_0_1_2 (Host.reduceAdd (mulf y y) (constant S_ .f32 0x00000000#32) reducesTo_S2x8x8192x64_S2x8x8192_d3 h_S_)) (broadcastInDim S2x8x8192x1 ![] bcast_S_S2x8x8192x1 (constant S_ .f32 0x42800000#32))) (broadcastInDim S2x8x8192x1 ![] bcast_S_S2x8x8192x1 (constant S_ .f32 0x358637BD#32)))))) (broadcastInDim S2x8x8192x64 ![0, 1, 2, 3] bcast_S1x1x1x64_S2x8x8192x64_0_1_2_3 (broadcastInDim S1x1x1x64 ![3] bcast_S64_S1x1x1x64_3 g))

/-- A table over positions and pairs, repeated for each sequence and head. -/
def repeated (a : FVec Ideal S8192x8 .f32) : FVec Ideal S2x8x8192x8 .f32 :=
  broadcastInDim S2x8x8192x8 ![0, 1, 2, 3] bcast_S1x1x8192x8_S2x8x8192x8_0_1_2_3 (broadcastInDim S1x1x8192x8 ![2, 3] bcast_S8192x8_S1x1x8192x8_2_3 a)

/-- The plain turn of the pairs. -/
def turnedHeads (z : FVec Ideal S2x8x8192x64 .f32) (co si : FVec Ideal S8192x8 .f32) : FVec Ideal S2x8x8192x64 .f32 :=
  concatenate S2x8x8192x64 3
    [⟨S2x8x8192x8, subf (mulf (extractStridedSlice S2x8x8192x8 ![0, 0, 0, 0] z slices_S2x8x8192x64_S2x8x8192x8_0_0_0_0) (repeated co))
        (mulf (extractStridedSlice S2x8x8192x8 ![0, 0, 0, 8] z slices_S2x8x8192x64_S2x8x8192x8_0_0_0_8) (repeated si))⟩,
      ⟨S2x8x8192x8, addf (mulf (extractStridedSlice S2x8x8192x8 ![0, 0, 0, 8] z slices_S2x8x8192x64_S2x8x8192x8_0_0_0_8) (repeated co))
        (mulf (extractStridedSlice S2x8x8192x8 ![0, 0, 0, 0] z slices_S2x8x8192x64_S2x8x8192x8_0_0_0_0) (repeated si))⟩,
      ⟨S2x8x8192x48, extractStridedSlice S2x8x8192x48 ![0, 0, 0, 16] z slices_S2x8x8192x64_S2x8x8192x48_0_0_0_16⟩]
    concatenates_S2x8x8192x8_S2x8x8192x8_S2x8x8192x48_S2x8x8192x64_d3

theorem headsOf_at (p : FVec Ideal S16384x512 .f32) (b : Fin 2) (h : Fin 8) (s : Fin 8192) (e : Fin 64) :
    headsOf p (ix4 b h s e) = p (ix2 ⟨b.val * 8192 + s.val, by omega⟩ ⟨h.val * 64 + e.val, by omega⟩) := by
  pointwise [headsOf]

theorem rowsOf_at (z : FVec Ideal S2x8x8192x64 .f32) (r : Fin 16384) (c : Fin 512) :
    rowsOf z (ix2 r c) = z (ix4 ⟨r.val / 8192, by omega⟩ ⟨c.val / 64, by omega⟩ ⟨r.val % 8192, by omega⟩ (lane c)) := by
  pointwise [rowsOf]
  rfl

theorem normedHeads_at (y : FVec Ideal S2x8x8192x64 .f32) (g : FVec Ideal S64 .f32) (b : Fin 2) (h : Fin 8) (s : Fin 8192) (e : Fin 64) :
    @Eq EReal (normedHeads y g (ix4 b h s e))
      (y (ix4 b h s e) * Ideal.rsqrt (Ideal.div (∑ f : Fin 64, y (ix4 b h s f) * y (ix4 b h s f)) (Ideal.ofBits .f32 0x42800000#32)
          + Ideal.ofBits .f32 0x358637BD#32) * g (ix1 e)) := by
  pointwise [normedHeads]

theorem turnedHeads_at (z : FVec Ideal S2x8x8192x64 .f32) (co si : FVec Ideal S8192x8 .f32) (b : Fin 2) (h : Fin 8) (s : Fin 8192) (e : Fin 64) :
    @Eq EReal (turnedHeads z co si (ix4 b h s e))
      (if h0 : e.val < 8 then z (ix4 b h s e) * co (ix2 s ⟨e.val, h0⟩) - z (ix4 b h s ⟨e.val + 8, by omega⟩) * si (ix2 s ⟨e.val, h0⟩)
        else if h1 : e.val < 16 then
          z (ix4 b h s e) * co (ix2 s ⟨e.val - 8, by omega⟩) + z (ix4 b h s ⟨e.val - 8, by omega⟩) * si (ix2 s ⟨e.val - 8, by omega⟩)
        else z (ix4 b h s e)) := by
  pointwise [turnedHeads, repeated]
  by_cases h0 : e.val < 8
  · rw [dif_pos h0, dif_pos h0]
    simp only [Nat.add_comm]
  · by_cases h1 : e.val < 16
    · have h1' : e.val - 8 < 8 := by omega
      rw [dif_neg h0, dif_neg h0, dif_pos h1', dif_pos h1]
      congr 4
      apply Fin.ext
      show 8 + (e.val - 8) = e.val
      omega
    · have h1' : ¬ e.val - 8 < 8 := by omega
      rw [dif_neg h0, dif_neg h0, dif_neg h1', dif_neg h1]
      congr 2
      apply Fin.ext
      show 16 + (e.val - 8 - 8) = e.val
      omega

/-- The plain head norm of rows of 512 columns is the head norm of each row. -/
theorem normed_at (p : FVec Ideal S16384x512 .f32) (g : FVec Ideal S64 .f32) (r : Fin 16384) (c : Fin 512) :
    @Eq EReal (rowsOf (normedHeads (headsOf p) g) (ix2 r c)) (headNorm (fun c => p (ix2 r c)) (fun l => g (ix1 l)) c) := by
  rw [rowsOf_at, normedHeads_at]
  simp only [headsOf_at]
  have er : (⟨r.val / 8192 * 8192 + r.val % 8192, by omega⟩ : Fin 16384) = r := by apply Fin.ext; show r.val / 8192 * 8192 + r.val % 8192 = r.val; omega
  have ec : (⟨c.val / 64 * 64 + c.val % 64, by omega⟩ : Fin 512) = c := by apply Fin.ext; show c.val / 64 * 64 + c.val % 64 = c.val; omega
  rw [headNorm]
  simp only [lane, er, ec]
  rfl

/-- The plain turn of the pairs turns each row's heads. -/
theorem turned_at (z : FVec Ideal S2x8x8192x64 .f32) (co si : FVec Ideal S8192x8 .f32) (r : Fin 16384) (c : Fin 512) :
    @Eq EReal (rowsOf (turnedHeads z co si) (ix2 r c)) (turned (fun c => rowsOf z (ix2 r c)) (fun j => co (ix2 ⟨r.val % 8192, by omega⟩ j))
      (fun j => si (ix2 ⟨r.val % 8192, by omega⟩ j)) c) := by
  rw [rowsOf_at, turnedHeads_at, turned]
  simp only [rowsOf_at]
  by_cases h0 : c.val % 64 < 8
  · have h0' : (lane c).val < 8 := h0
    rw [dif_pos h0', dif_pos h0]
    have e1 : (⟨(c.val + 8) / 64, by omega⟩ : Fin 8) = ⟨c.val / 64, by omega⟩ := by apply Fin.ext; show (c.val + 8) / 64 = c.val / 64; omega
    have e2 : lane ⟨c.val + 8, by omega⟩ = ⟨c.val % 64 + 8, by omega⟩ := by apply Fin.ext; show (c.val + 8) % 64 = c.val % 64 + 8; omega
    rw [e1, e2]
    rfl
  · have h0' : ¬ (lane c).val < 8 := h0
    by_cases h1 : c.val % 64 < 16
    · have h1' : (lane c).val < 16 := h1
      rw [dif_neg h0', dif_neg h0, dif_pos h1', dif_pos h1]
      have e1 : (⟨(c.val - 8) / 64, by omega⟩ : Fin 8) = ⟨c.val / 64, by omega⟩ := by apply Fin.ext; show (c.val - 8) / 64 = c.val / 64; omega
      have e2 : lane ⟨c.val - 8, by omega⟩ = ⟨c.val % 64 - 8, by omega⟩ := by apply Fin.ext; show (c.val - 8) % 64 = c.val % 64 - 8; omega
      rw [e1, e2]
      rfl
    · have h1' : ¬ (lane c).val < 16 := h1
      rw [dif_neg h0', dif_neg h0, dif_neg h1', dif_neg h1]

variable (V0 : Valuation τ sig (Elt Ideal))

theorem angles_at (s : Fin 8192) (j : Fin 8) : @Eq EReal (res_main_v16 (F := Ideal) V0 (ix2 s j)) (angle s.val j.val) := by
  pointwise [res_main_v16]
  rfl

/-- A row's products with the weights. -/
theorem products_at (r : Fin 16384) (j : Fin 7680) : @Eq EReal (res_main_v32 (F := Ideal) V0 (ix2 r j))
    (∑ k : Fin 1024, @HMul.hMul EReal EReal EReal _ (unitRow (fun k => V0 (Proc.devRef .tc main_arg0) (ix2 r k)) (fun k => V0 (Proc.devRef .tc main_arg1) (ix1 k)) k)
      (V0 (Proc.devRef .tc main_arg2) (ix2 k j))) := by
  pointwise [res_main_v32]
  rfl

/-- The columns of a role. -/
theorem role_at (o : ℕ) (ho : o ≤ 7168) (h : S16384x7680.Slices ![0, o] S16384x512) (r : Fin 16384) (c : Fin 512) :
    @Eq EReal (extractStridedSlice S16384x512 ![0, o] (res_main_v32 (F := Ideal) V0) h (ix2 r c))
      (role (unitRow (fun k => V0 (Proc.devRef .tc main_arg0) (ix2 r k)) (fun k => V0 (Proc.devRef .tc main_arg1) (ix1 k)))
        (fun k j => V0 (Proc.devRef .tc main_arg2) (ix2 k j)) o ho c) := by
  pointwise
  exact products_at V0 r _

/-- A role's heads, normed. -/
theorem role_normed_at (o : ℕ) (ho : o ≤ 7168) (h : S16384x7680.Slices ![0, o] S16384x512) (g : FVec Ideal S64 .f32) (r : Fin 16384) (c : Fin 512) :
    @Eq EReal (rowsOf (normedHeads (headsOf (extractStridedSlice S16384x512 ![0, o] (res_main_v32 (F := Ideal) V0) h)) g) (ix2 r c))
      (headNorm (role (unitRow (fun k => V0 (Proc.devRef .tc main_arg0) (ix2 r k)) (fun k => V0 (Proc.devRef .tc main_arg1) (ix1 k)))
        (fun k j => V0 (Proc.devRef .tc main_arg2) (ix2 k j)) o ho) (fun l => g (ix1 l)) c) := by
  rw [normed_at]
  congr 1
  funext c
  exact role_at V0 o ho h r c

/-- A role's heads, normed and turned. -/
theorem role_turned_at (o : ℕ) (ho : o ≤ 7168) (h : S16384x7680.Slices ![0, o] S16384x512) (g : FVec Ideal S64 .f32) (r : Fin 16384) (c : Fin 512) :
    @Eq EReal (rowsOf (turnedHeads (normedHeads (headsOf (extractStridedSlice S16384x512 ![0, o] (res_main_v32 (F := Ideal) V0) h)) g)
        (res_main_v17 (F := Ideal) V0) (res_main_v18 (F := Ideal) V0)) (ix2 r c))
      (turned (headNorm (role (unitRow (fun k => V0 (Proc.devRef .tc main_arg0) (ix2 r k)) (fun k => V0 (Proc.devRef .tc main_arg1) (ix1 k)))
        (fun k j => V0 (Proc.devRef .tc main_arg2) (ix2 k j)) o ho) (fun l => g (ix1 l)))
        (fun j => Ideal.cos (angle (r.val % 8192) j.val)) (fun j => Ideal.sin (angle (r.val % 8192) j.val)) c) := by
  rw [turned_at]
  have ec (j : Fin 8) : @Eq EReal (res_main_v17 (F := Ideal) V0 (ix2 ⟨r.val % 8192, by omega⟩ j)) (Ideal.cos (angle (r.val % 8192) j.val)) :=
    congrArg Ideal.cos (angles_at V0 _ j)
  have es (j : Fin 8) : @Eq EReal (res_main_v18 (F := Ideal) V0 (ix2 ⟨r.val % 8192, by omega⟩ j)) (Ideal.sin (angle (r.val % 8192) j.val)) :=
    congrArg Ideal.sin (angles_at V0 _ j)
  simp only [role_normed_at V0 o ho h g r, ec, es]

/-- Columns under a scale. -/
theorem scaled_at (p : FVec Ideal S16384x512 .f32) (x : BitVec 32) (r : Fin 16384) (c : Fin 512) {b : EReal} (h : @Eq EReal (p (ix2 r c)) b) :
    @Eq EReal ((truncf .bf16 (mulf p (broadcastInDim S16384x512 ![] bcast_S_S16384x512 (constant S_ .f32 x))) bitsLt_bf16_f32 : FVec Ideal S16384x512 .bf16) (ix2 r c))
      (b * Ideal.ofBits .f32 x) := by
  rw [← h]
  rfl

/-- The gates. -/
theorem gates_at (r : Fin 16384) (c : Fin 3072) :
    @Eq EReal ((Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 4608] (res_main_v32 (F := Ideal) V0) slices_S16384x7680_S16384x3072_0_4608)))) : FVec Ideal S16384x3072 .f32) (ix2 r c))
      (gateOf (V0 (Proc.devRef .tc main_arg0)) (V0 (Proc.devRef .tc main_arg1)) (V0 (Proc.devRef .tc main_arg2)) r c) := by
  pointwise
  rw [products_at, gateOf, rowGate, gate, zero_sub]

/-- The array of one of the nine results of 512 columns. -/
def whole (n : Fin 9) : Vec Ideal S16384x512 .bf16 := fun y =>
  outOf n (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (y 0) (y 1)

/-- The array of the gates. -/
def gates : Vec Ideal S16384x3072 .bf16 := fun y =>
  gateOf (V0 (Proc.devRef .tc main_arg0)) (V0 (Proc.devRef .tc main_arg1)) (V0 (Proc.devRef .tc main_arg2)) (y 0) (y 1)

/-- An array is known by its elements. -/
theorem ext2 {n k : ℕ} {x y : (⟨2, ![n, k]⟩ : Shape).Idx → EReal} (h : ∀ (r : Fin n) (c : Fin k), x (ix2 r c) = y (ix2 r c)) : x = y := by
  funext i
  obtain ⟨r, c, rfl⟩ : ∃ (r : Fin n) (c : Fin k), i = ix2 r c := ⟨i 0, i 1, eq_ix2 i⟩
  exact h r c

/-- The plain program's ten results. -/
theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v159) = whole (launchContents m c) 0
      ∧ r.2.mem ((c.tc : Thread nD τ).loc main_v160) = whole (launchContents m c) 1
      ∧ r.2.mem ((c.tc : Thread nD τ).loc main_v161) = whole (launchContents m c) 2
      ∧ r.2.mem ((c.tc : Thread nD τ).loc main_v162) = whole (launchContents m c) 3
      ∧ r.2.mem ((c.tc : Thread nD τ).loc main_v163) = whole (launchContents m c) 4
      ∧ r.2.mem ((c.tc : Thread nD τ).loc main_v164) = whole (launchContents m c) 5
      ∧ r.2.mem ((c.tc : Thread nD τ).loc main_v165) = whole (launchContents m c) 6
      ∧ r.2.mem ((c.tc : Thread nD τ).loc main_v166) = whole (launchContents m c) 7
      ∧ r.2.mem ((c.tc : Thread nD τ).loc main_v167) = whole (launchContents m c) 8
      ∧ r.2.mem ((c.tc : Thread nD τ).loc main_v168) = gates (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Value.run (F := Ideal) m ρ)
  obtain ⟨h0, h1, h2, h3, h4, h5, h6, h7, h8, h9, hr⟩ := h c
  refine ⟨h0.trans (ext2 fun r j => ?_), h1.trans (ext2 fun r j => ?_), h2.trans (ext2 fun r j => ?_), h3.trans (ext2 fun r j => ?_),
    h4.trans (ext2 fun r j => ?_), h5.trans (ext2 fun r j => ?_), h6.trans (ext2 fun r j => ?_), h7.trans (ext2 fun r j => ?_),
    h8.trans (ext2 fun r j => ?_), h9.trans (ext2 fun r j => ?_), hr⟩
  · exact scaled_at _ _ r j (role_turned_at _ 0 (by decide) slices_S16384x7680_S16384x512_0_0 _ r j)
  · exact role_turned_at _ 512 (by decide) slices_S16384x7680_S16384x512_0_512 _ r j
  · exact role_at _ 1024 (by decide) slices_S16384x7680_S16384x512_0_1024 r j
  · exact scaled_at _ _ r j (role_normed_at _ 1536 (by decide) slices_S16384x7680_S16384x512_0_1536 _ r j)
  · exact role_normed_at _ 2048 (by decide) slices_S16384x7680_S16384x512_0_2048 _ r j
  · exact role_at _ 2560 (by decide) slices_S16384x7680_S16384x512_0_2560 r j
  · exact scaled_at _ _ r j (role_at _ 3072 (by decide) slices_S16384x7680_S16384x512_0_3072 r j)
  · exact role_at _ 3584 (by decide) slices_S16384x7680_S16384x512_0_3584 r j
  · exact role_at _ 4096 (by decide) slices_S16384x7680_S16384x512_0_4096 r j
  · exact gates_at _ r j

end Cert.Projection.Plain

end
-- ==== Proof.ProjectionEquation.lean ====
/-
  The two input projections give equal arrays: the two runs set side by side.
-/
module

public import proofs.«01_k».proof.Defs
public import proofs.«01_k».proof.Proof.ProjectionValue
public import proofs.«01_k».proof.Proof.ProjectionPlain

@[expose] public section

set_option maxRecDepth 16384

noncomputable section

namespace Cert.Projection

open Idealize.ShloMosaic Idealize.ShloMosaic.TcCoe Idealize.SL.Sem Idealize.ShloMosaic.StableHlo

set_option maxHeartbeats 2000000 in
/-- The kernel's ten arrays equal the reference's. -/
theorem algebraic : Cert.algebraic_Kernel2Ideal_Reference2Ideal (hKernel2Ideal := Cert.Kernel2Ideal.Gen.facts)
    (hReference2Ideal := Cert.Reference2Ideal.Gen.facts) := by
  intro m g m' g' _ hm
  refine ⟨fun c => whole m c 0, fun c => whole m c 1, fun c => whole m c 2, fun c => whole m c 3, fun c => whole m c 4, fun c => whole m c 5,
    fun c => whole m c 6, fun c => whole m c 7, fun c => whole m c 8, fun c => gates m c, ?_, ?_⟩
  · exact run_whole m g
  · refine (θ_run _ _ _).mono (fun r h c => ?_) (Plain.run_whole m' g')
    obtain ⟨e0, e1, e2, e3, e4, e5, e6⟩ := hm c
    have e : ∀ n, Plain.whole (launchContents m' c) n = whole m c n := fun n => by
      show (fun y : (⟨2, ![16384, 512]⟩ : Shape).Idx => outOf n (m' (c.tc.loc Cert.Reference2Ideal.main_arg0)) (m' (c.tc.loc Cert.Reference2Ideal.main_arg1))
        (m' (c.tc.loc Cert.Reference2Ideal.main_arg2)) (m' (c.tc.loc Cert.Reference2Ideal.main_arg3)) (m' (c.tc.loc Cert.Reference2Ideal.main_arg4))
        (m' (c.tc.loc Cert.Reference2Ideal.main_arg5)) (m' (c.tc.loc Cert.Reference2Ideal.main_arg6)) (y 0) (y 1)) = _
      rw [e0, e1, e2, e3, e4, e5, e6]
      rfl
    have eg : Plain.gates (launchContents m' c) = gates m c := by
      show (fun y : (⟨2, ![16384, 3072]⟩ : Shape).Idx => gateOf (m' (c.tc.loc Cert.Reference2Ideal.main_arg0)) (m' (c.tc.loc Cert.Reference2Ideal.main_arg1))
        (m' (c.tc.loc Cert.Reference2Ideal.main_arg2)) (y 0) (y 1)) = _
      rw [e0, e1, e2]
      rfl
    obtain ⟨h0, h1, h2, h3, h4, h5, h6, h7, h8, h9, hr⟩ := h c
    exact ⟨h0.trans (e 0), h1.trans (e 1), h2.trans (e 2), h3.trans (e 3), h4.trans (e 4), h5.trans (e 5), h6.trans (e 6), h7.trans (e 7),
      h8.trans (e 8), h9.trans eg, hr⟩

end Cert.Projection

end
-- ==== Proof.MergeSpec.lean ====
/-
  The merge of the branches over the extended reals, one row at a time: the gated sum of the three branches, the row with
  its output projection added, its norm, and the scores of its queries against the subkeys.
-/
module

public import proofs.«01_k».proof.Proof.ProjectionSpec

@[expose] public section

noncomputable section

namespace Cert.Merge

open Idealize.ShloMosaic Finset
open Cert.Projection (unitRow)

/-- The row of a branch. -/
def branch (a b d : Fin 512 → EReal) (n : Fin 3) : Fin 512 → EReal :=
  match n with
  | ⟨0, _⟩ => a
  | ⟨1, _⟩ => b
  | ⟨2, _⟩ => d

/-- The three branches, each projected by its own weights and gated, summed. -/
def mergedRow (y : Fin 3 → Fin 512 → EReal) (g : Fin 3072 → EReal) (w : Fin 3 → Fin 512 → Fin 1024 → EReal) (k : Fin 1024) : EReal :=
  ∑ n : Fin 3, g ⟨n.val * 1024 + k.val, by omega⟩ * ∑ j : Fin 512, y n j * w n j k

/-- A row with the output projection added. -/
def newRow (x u : Fin 1024 → EReal) (w : Fin 1024 → Fin 1024 → EReal) (k : Fin 1024) : EReal := x k + ∑ j : Fin 1024, u j * w j k

/-- The score of a row's query `p` against a subkey `s`. -/
def score (h : Fin 1024 → EReal) (w : Fin 1024 → Fin 2048 → EReal) (s : Fin 128 → EReal) (p : Fin 16) : EReal :=
  ∑ d : Fin 128, s d * ∑ k : Fin 1024, h k * w k ⟨p.val * 128 + d.val, by omega⟩

/-- A row of the first result, from the arguments. -/
def newOf (a0 : (⟨2, ![16384, 1024]⟩ : Shape).Idx → EReal) (a1 a2 a3 : (⟨2, ![16384, 512]⟩ : Shape).Idx → EReal)
    (a4 : (⟨2, ![16384, 3072]⟩ : Shape).Idx → EReal) (a5 : (⟨3, ![3, 512, 1024]⟩ : Shape).Idx → EReal)
    (a6 : (⟨2, ![1024, 1024]⟩ : Shape).Idx → EReal) (r : Fin 16384) : Fin 1024 → EReal :=
  newRow (fun k => a0 (ix2 r k)) (mergedRow (branch (fun j => a1 (ix2 r j)) (fun j => a2 (ix2 r j)) (fun j => a3 (ix2 r j))) (fun k => a4 (ix2 r k))
    (fun n j k => a5 (ix3 n j k))) (fun j k => a6 (ix2 j k))

/-- A score of the third result, from a row of the second one. -/
def scoreOf (h : Fin 1024 → EReal) (a8 : (⟨2, ![1024, 2048]⟩ : Shape).Idx → EReal) (a9 : (⟨4, ![2, 8, 128, 128]⟩ : Shape).Idx → EReal)
    (p : Fin 16) (n : Fin 128) : EReal :=
  score h (fun k j => a8 (ix2 k j)) (fun d => a9 (ix4 ⟨p.val % 2, by omega⟩ ⟨p.val / 2, by omega⟩ n d)) p

end Cert.Merge

end
-- ==== Proof.MergeBody.lean ====
/-
  What one grid point of the merge computes from its blocks, read at an index.
-/
module

public import proofs.«01_k».proof.Proof.Gen.Kernel3Ideal.Frame
public import proofs.«01_k».proof.Proof.MergeSpec
public import Idealize.ShloMosaic.Lib.Pipeline.ValueKit.Basic
public import Idealize.ShloMosaic.Lib.Pipeline.ValueKit.Geometry

@[expose] public section

set_option maxRecDepth 16384

noncomputable section

namespace Cert.Merge

open Cert.Kernel3Ideal Cert.Kernel3Ideal.Gen Idealize.ShloMosaic Idealize.ShloMosaic.TcCoe Idealize.SL.Sem Finset
open Cert.Projection (unitRow)

/-- The gated sum of three products. -/
theorem gated_at (y0 y1 y2 : Vec Ideal S256x512 .bf16) (w0 w1 w2 : Vec Ideal S1x512x1024 .bf16) (g0 g1 g2 : Vec Ideal S256x1024 .bf16)
    (r : Fin 256) (k : Fin 1024) :
    @Eq EReal (k0_pay4 y0 w0 g0 y1 w1 g1 y2 w2 g2 (ix2 r k))
      (@HMul.hMul EReal EReal EReal _ (g0 (ix2 r k)) (∑ j : Fin 512, @HMul.hMul EReal EReal EReal _ (y0 (ix2 r j)) (w0 (ix3 0 j k)))
        + @HMul.hMul EReal EReal EReal _ (g1 (ix2 r k)) (∑ j : Fin 512, @HMul.hMul EReal EReal EReal _ (y1 (ix2 r j)) (w1 (ix3 0 j k)))
        + @HMul.hMul EReal EReal EReal _ (g2 (ix2 r k)) (∑ j : Fin 512, @HMul.hMul EReal EReal EReal _ (y2 (ix2 r j)) (w2 (ix3 0 j k)))) := by
  pointwise [k0_pay4]

/-- The rows with the output projection added. -/
theorem new_at (x : Vec Ideal S256x1024 .f32) (u : FVec Ideal S256x1024 .bf16) (w : Vec Ideal S1024x1024 .bf16) (r : Fin 256) (k : Fin 1024) :
    @Eq EReal (k0_pay5 x u w (ix2 r k)) (newRow (fun k => x (ix2 r k)) (fun j => u (ix2 r j)) (fun j k => w (ix2 j k)) k) := by
  pointwise [k0_pay5, newRow]

/-- The rows normed. -/
theorem normed_at (x : Vec Ideal S256x1024 .f32) (u : FVec Ideal S256x1024 .bf16) (w : Vec Ideal S1024x1024 .bf16) (g : Vec Ideal S1x1024 .f32)
    (r : Fin 256) (k : Fin 1024) :
    @Eq EReal (k0_pay6 x u w g (ix2 r k)) (unitRow (fun k => k0_pay5 x u w (ix2 r k)) (fun k => g (ix2 0 k)) k) := by
  pointwise [k0_pay6, unitRow]

/-- The queries. -/
theorem queries_at (x : Vec Ideal S256x1024 .f32) (u : FVec Ideal S256x1024 .bf16) (w : Vec Ideal S1024x1024 .bf16) (g : Vec Ideal S1x1024 .f32)
    (wq : Vec Ideal S1024x2048 .bf16) (r : Fin 256) (j : Fin 2048) :
    @Eq EReal (k0_pay7 x u w g wq (ix2 r j)) (∑ k : Fin 1024, @HMul.hMul EReal EReal EReal _ (k0_pay6 x u w g (ix2 r k)) (wq (ix2 k j))) := by
  pointwise [k0_pay7]

/-- The subkeys' scores of 128 columns of the queries, as the body takes them. -/
def tile (q : FVec Ideal S256x2048 .bf16) (s : Vec Ideal S1x128x128 .bf16) (o : ℕ) (h : S256x2048.Slices ![0, o] S256x128) : FVec Ideal S1x128x256 .f32 :=
  shapeCast S1x128x256 (matmul dot_S128x128_S256x128_S128x256_1_1_0_0_n_n none (shapeCast S128x128 s shapeCasts_S1x128x128_S128x128 : FVec Ideal S128x128 .bf16)
    (extractStridedSlice S256x128 ![0, o] q h) (constant S128x256 .f32 0x00000000#32)) shapeCasts_S128x256_S1x128x256

theorem tile_at (q : FVec Ideal S256x2048 .bf16) (s : Vec Ideal S1x128x128 .bf16) (o : ℕ) (ho : o ≤ 1920) (h : S256x2048.Slices ![0, o] S256x128)
    (n : Fin 128) (r : Fin 256) :
    @Eq EReal (tile q s o h (ix3 0 n r)) (∑ d : Fin 128, @HMul.hMul EReal EReal EReal _ (s (ix3 0 n d)) (q (ix2 r ⟨o + d.val, by omega⟩))) := by
  pointwise [tile]

/-! ## The loads -/

/-- A branch's weights as the body loads them. -/
theorem load_weights (x : Vec Ideal S3x512x1024 .bf16) (n : ℕ) (hn : n < 3) (inb) (j : Fin 512) (k : Fin 1024) :
    View.ld x (Rect.unit (s := S3x512x1024) ![n, 0, 0] S1x512x1024.size inb) (ix3 0 j k) = x (ix3 ⟨n, hn⟩ j k) := by
  show x _ = x _
  congr 1
  funext a
  apply Fin.ext
  match a with
  | ⟨0, _⟩ => show n + 1 * 0 = n; omega
  | ⟨1, _⟩ => show 0 + 1 * j.val = j.val; omega
  | ⟨2, _⟩ => show 0 + 1 * k.val = k.val; omega

/-- A branch's gates as the body loads them. -/
theorem load_gates (x : Vec Ideal S256x3072 .bf16) (o : ℕ) (ho : o ≤ 2048) (inb) (r : Fin 256) (k : Fin 1024) :
    View.ld x (Rect.unit (s := S256x3072) ![0, o] S256x1024.size inb) (ix2 r k) = x (ix2 r ⟨o + k.val, by omega⟩) := by
  show x _ = x _
  congr 1
  funext a
  apply Fin.ext
  match a with
  | ⟨0, _⟩ => show 0 + 1 * r.val = r.val; omega
  | ⟨1, _⟩ => show o + 1 * k.val = o + k.val; omega

/-- The subkeys of one half of a head as the body loads them. -/
theorem load_subkeys (x : Vec Ideal S16x128x128 .bf16) (p : ℕ) (hp : p < 16) (inb) (n d : Fin 128) :
    View.ld x (Rect.unit (s := S16x128x128) ![p, 0, 0] S1x128x128.size inb) (ix3 0 n d) = x (ix3 ⟨p, hp⟩ n d) := by
  show x _ = x _
  congr 1
  funext a
  apply Fin.ext
  match a with
  | ⟨0, _⟩ => show p + 1 * 0 = p; omega
  | ⟨1, _⟩ => show 0 + 1 * n.val = n.val; omega
  | ⟨2, _⟩ => show 0 + 1 * d.val = d.val; omega

/-! ## What the body leaves -/

variable (x0 : Vec Ideal S256x1024 .f32) (x1 x2 x3 : Vec Ideal S256x512 .bf16) (x4 : Vec Ideal S256x3072 .bf16) (x5 : Vec Ideal S3x512x1024 .bf16)
  (x6 : Vec Ideal S1024x1024 .bf16) (x7 : Vec Ideal S1x1024 .f32) (x8 : Vec Ideal S1024x2048 .bf16) (x9 : Vec Ideal S16x128x128 .bf16)

/-- A row of the block with the output projection added. -/
def blockNew (r : Fin 256) : Fin 1024 → EReal :=
  newRow (fun k => x0 (ix2 r k)) (mergedRow (branch (fun j => x1 (ix2 r j)) (fun j => x2 (ix2 r j)) (fun j => x3 (ix2 r j))) (fun k => x4 (ix2 r k))
    (fun n j k => x5 (ix3 n j k))) (fun j k => x6 (ix2 j k))

/-- A row of the block normed. -/
def blockNormed (r : Fin 256) : Fin 1024 → EReal := unitRow (blockNew x0 x1 x2 x3 x4 x5 x6 r) (fun k => x7 (ix2 0 k))

/-- The merged rows that the output projection takes. -/
theorem merged_eq (r : Fin 256) (k : Fin 1024) : @Eq EReal (k0_pay25 (F := Ideal) x0 x1 x2 x3 x4 x5 x6 x7 x8 x9 (ix2 r k))
    (mergedRow (branch (fun j => x1 (ix2 r j)) (fun j => x2 (ix2 r j)) (fun j => x3 (ix2 r j))) (fun k => x4 (ix2 r k)) (fun n j k => x5 (ix3 n j k)) k) := by
  have e1 : View.ld x1 r0_0 = x1 := View.ld_unit_lit _ _ (by decide)
  have e2 : View.ld x2 r0_0 = x2 := View.ld_unit_lit _ _ (by decide)
  have e3 : View.ld x3 r0_0 = x3 := View.ld_unit_lit _ _ (by decide)
  rw [k0_pay25, e1, e2, e3, gated_at, mergedRow, Fin.sum_univ_three]
  simp only [load_weights x5 0 (by decide), load_weights x5 1 (by decide), load_weights x5 2 (by decide), load_gates x4 0 (by decide),
    load_gates x4 1024 (by decide), load_gates x4 2048 (by decide)]
  rfl

/-- The new rows that the norm takes. -/
theorem new_eq (r : Fin 256) : (fun k => k0_pay5 (View.ld x0 r0_7) (k0_pay25 (F := Ideal) x0 x1 x2 x3 x4 x5 x6 x7 x8 x9) (View.ld x6 r0_8) (ix2 r k))
    = blockNew x0 x1 x2 x3 x4 x5 x6 r := by
  have e0 : View.ld x0 r0_7 = x0 := View.ld_unit_lit _ _ (by decide)
  have e6 : View.ld x6 r0_8 = x6 := View.ld_unit_lit _ _ (by decide)
  funext k
  rw [e0, e6, new_at, blockNew]
  congr 1
  funext k
  exact merged_eq x0 x1 x2 x3 x4 x5 x6 x7 x8 x9 r k

/-- The normed rows that the queries take. -/
theorem normed_eq (r : Fin 256) (k : Fin 1024) :
    k0_pay6 (View.ld x0 r0_7) (k0_pay25 (F := Ideal) x0 x1 x2 x3 x4 x5 x6 x7 x8 x9) (View.ld x6 r0_8) (View.ld x7 r0_9) (ix2 r k)
    = blockNormed x0 x1 x2 x3 x4 x5 x6 x7 r k := by
  have e7 : View.ld x7 r0_9 = x7 := View.ld_unit_lit _ _ (by decide)
  rw [normed_at, e7, new_eq]
  rfl

/-- The queries that the scores take. -/
theorem queries_eq (r : Fin 256) (j : Fin 2048) : @Eq EReal (k0_pay26 (F := Ideal) x0 x1 x2 x3 x4 x5 x6 x7 x8 x9 (ix2 r j))
    (∑ k : Fin 1024, blockNormed x0 x1 x2 x3 x4 x5 x6 x7 r k * x8 (ix2 k j)) := by
  have e8 : View.ld x8 r0_10 = x8 := View.ld_unit_lit _ _ (by decide)
  rw [k0_pay26, e8, queries_at]
  refine Finset.sum_congr rfl fun k _ => ?_
  rw [normed_eq]

/-- The rows with the output projection added. -/
theorem out10_at (r : Fin 256) (k : Fin 1024) : @Eq EReal (out0_10 (F := Ideal) x0 x1 x2 x3 x4 x5 x6 x7 x8 x9 (ix2 r k)) (blockNew x0 x1 x2 x3 x4 x5 x6 r k) := by
  rw [out0_10, View.canon_cons_unit_lit _ _ [] (by decide)]
  exact congrFun (new_eq x0 x1 x2 x3 x4 x5 x6 x7 x8 x9 r) k

/-- The rows normed. -/
theorem out11_at (r : Fin 256) (k : Fin 1024) : @Eq EReal (out0_11 (F := Ideal) x0 x1 x2 x3 x4 x5 x6 x7 x8 x9 (ix2 r k)) (blockNormed x0 x1 x2 x3 x4 x5 x6 x7 r k) := by
  rw [out0_11, View.canon_cons_unit_lit _ _ [] (by decide)]
  exact normed_eq x0 x1 x2 x3 x4 x5 x6 x7 x8 x9 r k

/-- The scores of a block of rows. -/
def blockScores : Vec Ideal S16x128x256 .f32 := fun z =>
  score (blockNormed x0 x1 x2 x3 x4 x5 x6 x7 (z 2)) (fun k j => x8 (ix2 k j)) (fun d => x9 (ix3 (z 0) (z 1) d)) (z 0)

/-- One of the sixteen stores of scores. -/
theorem tile_piece (p : ℕ) (hp : p < 16) (o : ℕ) (ho : o = p * 128) (h : S256x2048.Slices ![0, o] S256x128) (inb) (inb') (y : S1x128x256.Idx) :
    tile (k0_pay26 (F := Ideal) x0 x1 x2 x3 x4 x5 x6 x7 x8 x9) (View.ld x9 (Rect.unit (s := S16x128x128) ![p, 0, 0] S1x128x128.size inb)) o h y
      = blockScores x0 x1 x2 x3 x4 x5 x6 x7 x8 x9 ((Rect.unit (s := S16x128x256) ![p, 0, 0] S1x128x256.size inb').idx y) := by
  subst ho
  obtain ⟨z, n, r, rfl⟩ : ∃ (z : Fin 1) (n : Fin 128) (r : Fin 256), y = ix3 z n r := ⟨y 0, y 1, y 2, eq_ix3 y⟩
  obtain rfl : z = 0 := Subsingleton.elim _ _
  have e : (Rect.unit (s := S16x128x256) ![p, 0, 0] S1x128x256.size inb').idx (ix3 0 n r) = (ix3 ⟨p, hp⟩ n r : S16x128x256.Idx) := by
    funext a
    apply Fin.ext
    match a with
    | ⟨0, _⟩ => show p + 1 * 0 = p; omega
    | ⟨1, _⟩ => show 0 + 1 * n.val = n.val; omega
    | ⟨2, _⟩ => show 0 + 1 * r.val = r.val; omega
  rw [e]
  refine (tile_at _ _ _ (by omega) h n r).trans ?_
  unfold blockScores score
  refine Finset.sum_congr (M := EReal) rfl fun d _ => ?_
  rw [load_subkeys x9 p hp, queries_eq]
  rfl

set_option maxHeartbeats 2000000 in
/-- The scores. -/
theorem out12_at (p : Fin 16) (n : Fin 128) (r : Fin 256) : @Eq EReal (out0_12 (F := Ideal) x0 x1 x2 x3 x4 x5 x6 x7 x8 x9 (ix3 p n r))
    (score (blockNormed x0 x1 x2 x3 x4 x5 x6 x7 r) (fun k j => x8 (ix2 k j)) (fun d => x9 (ix3 p n d)) p) := by
  rw [out0_12]
  have piece := tile_piece x0 x1 x2 x3 x4 x5 x6 x7 x8 x9
  refine View.canon_apply_of_pieces (blockScores x0 x1 x2 x3 x4 x5 x6 x7 x8 x9) _ ?_
    (ix3 p n r) (cover0_12 _ _ _ _ _ _ _ _ _ _ _ _ _ _ _ _ _)
  simp only [List.forall_mem_cons, List.not_mem_nil, false_imp_iff, implies_true, and_true]
  refine ⟨?_, ?_, ?_, ?_, ?_, ?_, ?_, ?_, ?_, ?_, ?_, ?_, ?_, ?_, ?_, ?_⟩
  · exact fun y => piece 15 (by decide) 1920 rfl slices_S256x2048_o0_1920_S256x128 _ _ y
  · exact fun y => piece 14 (by decide) 1792 rfl slices_S256x2048_o0_1792_S256x128 _ _ y
  · exact fun y => piece 13 (by decide) 1664 rfl slices_S256x2048_o0_1664_S256x128 _ _ y
  · exact fun y => piece 12 (by decide) 1536 rfl slices_S256x2048_o0_1536_S256x128 _ _ y
  · exact fun y => piece 11 (by decide) 1408 rfl slices_S256x2048_o0_1408_S256x128 _ _ y
  · exact fun y => piece 10 (by decide) 1280 rfl slices_S256x2048_o0_1280_S256x128 _ _ y
  · exact fun y => piece 9 (by decide) 1152 rfl slices_S256x2048_o0_1152_S256x128 _ _ y
  · exact fun y => piece 8 (by decide) 1024 rfl slices_S256x2048_o0_1024_S256x128 _ _ y
  · exact fun y => piece 7 (by decide) 896 rfl slices_S256x2048_o0_896_S256x128 _ _ y
  · exact fun y => piece 6 (by decide) 768 rfl slices_S256x2048_o0_768_S256x128 _ _ y
  · exact fun y => piece 5 (by decide) 640 rfl slices_S256x2048_o0_640_S256x128 _ _ y
  · exact fun y => piece 4 (by decide) 512 rfl slices_S256x2048_o0_512_S256x128 _ _ y
  · exact fun y => piece 3 (by decide) 384 rfl slices_S256x2048_o0_384_S256x128 _ _ y
  · exact fun y => piece 2 (by decide) 256 rfl slices_S256x2048_o0_256_S256x128 _ _ y
  · exact fun y => piece 1 (by decide) 128 rfl slices_S256x2048_o0_128_S256x128 _ _ y
  · exact fun y => piece 0 (by decide) 0 rfl slices_S256x2048_o0_0_S256x128 _ _ y

end Cert.Merge

end
-- ==== Proof.MergeBlocks.lean ====
/-
  The blocks that the merge's grid points read, and what the points compute from them.
-/
module

public import proofs.«01_k».proof.Proof.MergeBody
public import proofs.«01_k».proof.Proof.Gen.Kernel3Ideal.Value
public import Idealize.ShloMosaic.Lib.Claim
public import Idealize.ShloMosaic.Lib.StableHlo.ReadAt

@[expose] public section

set_option maxRecDepth 16384

noncomputable section

namespace Cert.Merge

open Cert.Kernel3Ideal Cert.Kernel3Ideal.Gen Idealize.ShloMosaic Idealize.ShloMosaic.TcCoe Idealize.SL.Sem Finset
open Idealize.ShloMosaic.Pipeline (Dat)
open Cert.Projection (unitRow)

variable (m : (ℓ : Loc nD τ sig) → Buf (Elt Ideal) ℓ) (c : Dev nD)

/-! ## What the launch finds -/

theorem host_first (r : Fin 16384) (j : Fin 512) : (V m c main_v2 (ix2 r j) : EReal) = m (c.tc.loc main_arg1) (ix2 r j) := by
  unfold V
  after_reads_at

theorem host_second (r : Fin 16384) (j : Fin 512) : (V m c main_v3 (ix2 r j) : EReal) = m (c.tc.loc main_arg2) (ix2 r j) := by
  unfold V
  after_reads_at

theorem host_third (r : Fin 16384) (j : Fin 512) : (V m c main_v4 (ix2 r j) : EReal) = m (c.tc.loc main_arg3) (ix2 r j) := by
  unfold V
  after_reads_at

theorem host_gates (r : Fin 16384) (j : Fin 3072) : (V m c main_v5 (ix2 r j) : EReal) = m (c.tc.loc main_arg4) (ix2 r j) := by
  unfold V
  after_reads_at

theorem host_branches (n : Fin 3) (j : Fin 512) (k : Fin 1024) : (V m c main_v6 (ix3 n j k) : EReal) = m (c.tc.loc main_arg5) (ix3 n j k) := by
  unfold V
  after_reads_at

theorem host_out (j k : Fin 1024) : (V m c main_v7 (ix2 j k) : EReal) = m (c.tc.loc main_arg6) (ix2 j k) := by
  unfold V
  after_reads_at

theorem host_gain (k : Fin 1024) : (V m c main_v8 (ix2 0 k) : EReal) = m (c.tc.loc main_arg7) (ix1 k) := by
  unfold V
  after_reads_at

theorem host_queries (k : Fin 1024) (j : Fin 2048) : (V m c main_v9 (ix2 k j) : EReal) = m (c.tc.loc main_arg8) (ix2 k j) := by
  unfold V
  after_reads_at

/-- The launch finds the subkeys with a head's two halves side by side. -/
theorem host_subkeys (p : Fin 16) (n d : Fin 128) : (V m c main_v10 (ix3 p n d) : EReal)
    = m (c.tc.loc main_arg9) (ix4 ⟨p.val % 2, by omega⟩ ⟨p.val / 2, by omega⟩ n d) := by
  unfold V
  after_reads_at

/-! ## The blocks -/

/-- The block that a point takes of the arrays that it walks along. -/
theorem index_walk (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_12.index t 0 = 0 ∧ win0_12.index t 1 = 0 ∧ win0_12.index t 2 = t.val) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_12.index t 0 = 0 ∧ win0_12.index t 1 = 0 ∧ win0_12.index t 2 = t.val)) t

/-- The block that every point takes of the arrays that all points share. -/
theorem index_still (t : Fin cfg0.N) : (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0 ∧ win0_9.index t 2 = 0) :=
  (by decide +kernel : ∀ t : Fin grid0.N, (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0 ∧ win0_9.index t 2 = 0)) t

/-- There are 64 grid points. -/
theorem point_lt (t : Fin cfg0.N) : t.val < 64 := by have h : cfg0.N = 64 := N_0; have := t.isLt; omega

theorem row_lt (t : Fin cfg0.N) (r : Fin 256) : t.val * 256 + r.val < 16384 := by have := point_lt t; omega

/-- The row of the whole arrays that is row `r` of point `t`. -/
def rowAt (t : Fin cfg0.N) (r : Fin 256) : Fin 16384 := ⟨t.val * 256 + r.val, row_lt t r⟩

/-- A place, from its number along each axis. -/
theorem place {n k : ℕ} (i : (⟨2, ![n, k]⟩ : Shape).Idx) (r : Fin n) (l : Fin k) (h0 : (i 0).val = r.val) (h1 : (i 1).val = l.val) : i = ix2 r l := by
  funext a
  apply Fin.ext
  match a with
  | ⟨0, _⟩ => exact h0
  | ⟨1, _⟩ => exact h1

theorem place3 {n k s : ℕ} (i : (⟨3, ![n, k, s]⟩ : Shape).Idx) (a : Fin n) (b : Fin k) (d : Fin s) (h0 : (i 0).val = a.val) (h1 : (i 1).val = b.val)
    (h2 : (i 2).val = d.val) : i = ix3 a b d := by
  funext x
  apply Fin.ext
  match x with
  | ⟨0, _⟩ => exact h0
  | ⟨1, _⟩ => exact h1
  | ⟨2, _⟩ => exact h2

/-- A point's rows. -/
theorem read_rows (t : Fin cfg0.N) (r : Fin 256) (l : Fin 1024) :
    (iblk m c 0 t : Vec Ideal S256x1024 .f32) (ix2 r l) = m (c.tc.loc main_arg0) (ix2 (rowAt t r) l) := by
  unfold iblk
  rw [View.read_apply]
  show V m c main_arg0 _ = _
  rw [V_main_arg0]
  refine congrArg (m (c.tc.loc main_arg0)) (place _ _ _ ?_ ?_)
  · show win0_0.index t 0 * 256 + 1 * r.val = t.val * 256 + r.val
    rw [(index_walk t).1.1]; omega
  · show win0_0.index t 1 * 1024 + 1 * l.val = l.val
    rw [(index_walk t).1.2]; omega

/-- A point's rows of the first branch. -/
theorem read_first (t : Fin cfg0.N) (r : Fin 256) (l : Fin 512) :
    @Eq EReal ((iblk m c 1 t : Vec Ideal S256x512 .bf16) (ix2 r l)) (m (c.tc.loc main_arg1) (ix2 (rowAt t r) l)) := by
  refine Eq.trans ?_ (host_first m c (rowAt t r) l)
  unfold iblk
  rw [View.read_apply]
  refine congrArg (V m c main_v2) (place _ _ _ ?_ ?_)
  · show win0_1.index t 0 * 256 + 1 * r.val = t.val * 256 + r.val
    rw [(index_walk t).2.1.1]; omega
  · show win0_1.index t 1 * 512 + 1 * l.val = l.val
    rw [(index_walk t).2.1.2]; omega

/-- A point's rows of the second branch. -/
theorem read_second (t : Fin cfg0.N) (r : Fin 256) (l : Fin 512) :
    @Eq EReal ((iblk m c 2 t : Vec Ideal S256x512 .bf16) (ix2 r l)) (m (c.tc.loc main_arg2) (ix2 (rowAt t r) l)) := by
  refine Eq.trans ?_ (host_second m c (rowAt t r) l)
  unfold iblk
  rw [View.read_apply]
  refine congrArg (V m c main_v3) (place _ _ _ ?_ ?_)
  · show win0_2.index t 0 * 256 + 1 * r.val = t.val * 256 + r.val
    rw [(index_walk t).2.2.1.1]; omega
  · show win0_2.index t 1 * 512 + 1 * l.val = l.val
    rw [(index_walk t).2.2.1.2]; omega

/-- A point's rows of the third branch. -/
theorem read_third (t : Fin cfg0.N) (r : Fin 256) (l : Fin 512) :
    @Eq EReal ((iblk m c 3 t : Vec Ideal S256x512 .bf16) (ix2 r l)) (m (c.tc.loc main_arg3) (ix2 (rowAt t r) l)) := by
  refine Eq.trans ?_ (host_third m c (rowAt t r) l)
  unfold iblk
  rw [View.read_apply]
  refine congrArg (V m c main_v4) (place _ _ _ ?_ ?_)
  · show win0_3.index t 0 * 256 + 1 * r.val = t.val * 256 + r.val
    rw [(index_walk t).2.2.2.1.1]; omega
  · show win0_3.index t 1 * 512 + 1 * l.val = l.val
    rw [(index_walk t).2.2.2.1.2]; omega

/-- A point's rows of the gates. -/
theorem read_gates (t : Fin cfg0.N) (r : Fin 256) (l : Fin 3072) :
    @Eq EReal ((iblk m c 4 t : Vec Ideal S256x3072 .bf16) (ix2 r l)) (m (c.tc.loc main_arg4) (ix2 (rowAt t r) l)) := by
  refine Eq.trans ?_ (host_gates m c (rowAt t r) l)
  unfold iblk
  rw [View.read_apply]
  refine congrArg (V m c main_v5) (place _ _ _ ?_ ?_)
  · show win0_4.index t 0 * 256 + 1 * r.val = t.val * 256 + r.val
    rw [(index_walk t).2.2.2.2.1.1]; omega
  · show win0_4.index t 1 * 3072 + 1 * l.val = l.val
    rw [(index_walk t).2.2.2.2.1.2]; omega

/-- Every point reads all weights of the branches. -/
theorem read_branches (t : Fin cfg0.N) (n : Fin 3) (j : Fin 512) (k : Fin 1024) :
    @Eq EReal ((iblk m c 5 t : Vec Ideal S3x512x1024 .bf16) (ix3 n j k)) (m (c.tc.loc main_arg5) (ix3 n j k)) := by
  refine Eq.trans ?_ (host_branches m c n j k)
  unfold iblk
  rw [View.read_apply]
  refine congrArg (V m c main_v6) (place3 _ _ _ _ ?_ ?_ ?_)
  · show win0_5.index t 0 * 3 + 1 * n.val = n.val
    rw [(index_still t).1.1]; omega
  · show win0_5.index t 1 * 512 + 1 * j.val = j.val
    rw [(index_still t).1.2.1]; omega
  · show win0_5.index t 2 * 1024 + 1 * k.val = k.val
    rw [(index_still t).1.2.2]; omega

/-- Every point reads all weights of the output projection. -/
theorem read_out (t : Fin cfg0.N) (j k : Fin 1024) :
    @Eq EReal ((iblk m c 6 t : Vec Ideal S1024x1024 .bf16) (ix2 j k)) (m (c.tc.loc main_arg6) (ix2 j k)) := by
  refine Eq.trans ?_ (host_out m c j k)
  unfold iblk
  rw [View.read_apply]
  refine congrArg (V m c main_v7) (place _ _ _ ?_ ?_)
  · show win0_6.index t 0 * 1024 + 1 * j.val = j.val
    rw [(index_still t).2.1.1]; omega
  · show win0_6.index t 1 * 1024 + 1 * k.val = k.val
    rw [(index_still t).2.1.2]; omega

/-- Every point reads all gains of the norm. -/
theorem read_gain (t : Fin cfg0.N) (k : Fin 1024) :
    @Eq EReal ((iblk m c 7 t : Vec Ideal S1x1024 .f32) (ix2 0 k)) (m (c.tc.loc main_arg7) (ix1 k)) := by
  refine Eq.trans ?_ (host_gain m c k)
  unfold iblk
  rw [View.read_apply]
  refine congrArg (V m c main_v8) (place _ _ _ ?_ ?_)
  · show win0_7.index t 0 * 1 + 1 * 0 = 0
    rw [(index_still t).2.2.1.1]
  · show win0_7.index t 1 * 1024 + 1 * k.val = k.val
    rw [(index_still t).2.2.1.2]; omega

/-- Every point reads all weights of the queries. -/
theorem read_queries (t : Fin cfg0.N) (k : Fin 1024) (j : Fin 2048) :
    @Eq EReal ((iblk m c 8 t : Vec Ideal S1024x2048 .bf16) (ix2 k j)) (m (c.tc.loc main_arg8) (ix2 k j)) := by
  refine Eq.trans ?_ (host_queries m c k j)
  unfold iblk
  rw [View.read_apply]
  refine congrArg (V m c main_v9) (place _ _ _ ?_ ?_)
  · show win0_8.index t 0 * 1024 + 1 * k.val = k.val
    rw [(index_still t).2.2.2.1.1]; omega
  · show win0_8.index t 1 * 2048 + 1 * j.val = j.val
    rw [(index_still t).2.2.2.1.2]; omega

/-- Every point reads all subkeys. -/
theorem read_subkeys (t : Fin cfg0.N) (p : Fin 16) (n d : Fin 128) : @Eq EReal ((iblk m c 9 t : Vec Ideal S16x128x128 .bf16) (ix3 p n d))
    (m (c.tc.loc main_arg9) (ix4 ⟨p.val % 2, by omega⟩ ⟨p.val / 2, by omega⟩ n d)) := by
  refine Eq.trans ?_ (host_subkeys m c p n d)
  unfold iblk
  rw [View.read_apply]
  refine congrArg (V m c main_v10) (place3 _ _ _ _ ?_ ?_ ?_)
  · show win0_9.index t 0 * 16 + 1 * p.val = p.val
    rw [(index_still t).2.2.2.2.1]; omega
  · show win0_9.index t 1 * 128 + 1 * n.val = n.val
    rw [(index_still t).2.2.2.2.2.1]; omega
  · show win0_9.index t 2 * 128 + 1 * d.val = d.val
    rw [(index_still t).2.2.2.2.2.2]; omega

/-! ## What the points compute -/

/-- The array of the new rows. -/
def newArray : Vec Ideal S16384x1024 .f32 := fun y =>
  newOf (m (c.tc.loc main_arg0)) (m (c.tc.loc main_arg1)) (m (c.tc.loc main_arg2)) (m (c.tc.loc main_arg3)) (m (c.tc.loc main_arg4))
    (m (c.tc.loc main_arg5)) (m (c.tc.loc main_arg6)) (y 0) (y 1)

/-- A row of the new rows, normed. -/
def normedRow (r : Fin 16384) : Fin 1024 → EReal :=
  unitRow (newOf (m (c.tc.loc main_arg0)) (m (c.tc.loc main_arg1)) (m (c.tc.loc main_arg2)) (m (c.tc.loc main_arg3)) (m (c.tc.loc main_arg4))
    (m (c.tc.loc main_arg5)) (m (c.tc.loc main_arg6)) r) (fun k => m (c.tc.loc main_arg7) (ix1 k))

/-- The array of the normed rows. -/
def normedArray : Vec Ideal S16384x1024 .bf16 := fun y => normedRow m c (y 0) (y 1)

/-- The array of the scores. -/
def scoreArray : Vec Ideal S16x128x16384 .f32 := fun y =>
  scoreOf (normedRow m c (y 2)) (m (c.tc.loc main_arg8)) (m (c.tc.loc main_arg9)) (y 0) (y 1)

/-- A point's new rows are rows of the whole array. -/
theorem new_row (t : Fin cfg0.N) (r : Fin 256) :
    blockNew (iblk m c 0 t) (iblk m c 1 t) (iblk m c 2 t) (iblk m c 3 t) (iblk m c 4 t) (iblk m c 5 t) (iblk m c 6 t) r
      = newOf (m (c.tc.loc main_arg0)) (m (c.tc.loc main_arg1)) (m (c.tc.loc main_arg2)) (m (c.tc.loc main_arg3)) (m (c.tc.loc main_arg4))
        (m (c.tc.loc main_arg5)) (m (c.tc.loc main_arg6)) (rowAt t r) := by
  have e0 := funext (read_rows m c t r)
  have e1 := funext (read_first m c t r)
  have e2 := funext (read_second m c t r)
  have e3 := funext (read_third m c t r)
  have e4 := funext (read_gates m c t r)
  have e5 := funext fun n => funext fun j => funext (read_branches m c t n j)
  have e6 := funext fun j => funext (read_out m c t j)
  unfold blockNew newOf
  rw [e0, e1, e2, e3, e4, e5, e6]

/-- A point's normed rows are rows of the whole array. -/
theorem normed_row (t : Fin cfg0.N) (r : Fin 256) :
    blockNormed (iblk m c 0 t) (iblk m c 1 t) (iblk m c 2 t) (iblk m c 3 t) (iblk m c 4 t) (iblk m c 5 t) (iblk m c 6 t) (iblk m c 7 t) r
      = normedRow m c (rowAt t r) := by
  have e7 := funext (read_gain m c t)
  unfold blockNormed normedRow
  rw [new_row, e7]

/-- A point's scores are scores of the whole array. -/
theorem score_at (t : Fin cfg0.N) (p : Fin 16) (n : Fin 128) (r : Fin 256) :
    score (blockNormed (iblk m c 0 t) (iblk m c 1 t) (iblk m c 2 t) (iblk m c 3 t) (iblk m c 4 t) (iblk m c 5 t) (iblk m c 6 t) (iblk m c 7 t) r)
      (fun k j => (iblk m c 8 t : Vec Ideal S1024x2048 .bf16) (ix2 k j)) (fun d => (iblk m c 9 t : Vec Ideal S16x128x128 .bf16) (ix3 p n d)) p
      = scoreArray m c (ix3 p n (rowAt t r)) := by
  have e8 := funext fun k => funext (read_queries m c t k)
  have e9 := funext (read_subkeys m c t p n)
  rw [normed_row, e8, e9]
  rfl

/-! ## The whole arrays -/

/-- A statement about the places of a block holds if it holds at every row and column. -/
theorem at_places {n k : ℕ} {P : (⟨2, ![n, k]⟩ : Shape).Idx → Prop} (h : ∀ (r : Fin n) (l : Fin k), P (ix2 r l)) : ∀ y, P y := fun y => by
  rw [eq_ix2 y]
  exact h _ _

theorem at_places3 {n k s : ℕ} {P : (⟨3, ![n, k, s]⟩ : Shape).Idx → Prop} (h : ∀ (a : Fin n) (b : Fin k) (d : Fin s), P (ix3 a b d)) : ∀ y, P y := fun y => by
  rw [eq_ix3 y]
  exact h _ _ _

/-- The place in a result's array of a place in a point's block. -/
theorem out_place (t : Fin cfg0.N) (r : Fin 256) (l : Fin 1024) (i : (⟨2, ![16384, 1024]⟩ : Shape).Idx)
    (h0 : (i 0).val = win0_0.index t 0 * 256 + 1 * r.val) (h1 : (i 1).val = win0_0.index t 1 * 1024 + 1 * l.val) : ix2 (rowAt t r) l = i := by
  refine (place _ _ _ (h0.trans ?_) (h1.trans ?_)).symm
  · rw [(index_walk t).1.1, one_mul]; rfl
  · rw [(index_walk t).1.2, zero_mul, one_mul, zero_add]

theorem out_place3 (t : Fin cfg0.N) (p : Fin 16) (n : Fin 128) (r : Fin 256) (i : (⟨3, ![16, 128, 16384]⟩ : Shape).Idx)
    (h0 : (i 0).val = win0_12.index t 0 * 16 + 1 * p.val) (h1 : (i 1).val = win0_12.index t 1 * 128 + 1 * n.val)
    (h2 : (i 2).val = win0_12.index t 2 * 256 + 1 * r.val) : ix3 p n (rowAt t r) = i := by
  refine (place3 _ _ _ _ (h0.trans ?_) (h1.trans ?_) (h2.trans ?_)).symm
  · rw [(index_walk t).2.2.2.2.2.1, zero_mul, one_mul, zero_add]
  · rw [(index_walk t).2.2.2.2.2.2.1, zero_mul, one_mul, zero_add]
  · rw [(index_walk t).2.2.2.2.2.2.2, one_mul]; rfl

/-- The new rows, over the whole array. -/
theorem final10 : (dats m 0 c).arrAt 10 cfg0.N = newArray m c :=
  (dats m 0 c).arrAt_eq_of_covers 10 _ (by decide +kernel) fun t _ => at_places (n := 256) (k := 1024) fun r l =>
    (congrFun (after0_10 m c t) (ix2 r l)).trans <| ((out10_at _ _ _ _ _ _ _ _ _ _ r l).trans (congrFun (new_row m c t r) l)).trans
      (congrArg (newArray m c) (out_place t r l _ rfl rfl))

/-- The normed rows, over the whole array. -/
theorem final11 : (dats m 0 c).arrAt 11 cfg0.N = normedArray m c :=
  (dats m 0 c).arrAt_eq_of_covers 11 _ (by decide +kernel) fun t _ => at_places (n := 256) (k := 1024) fun r l =>
    (congrFun (after0_11 m c t) (ix2 r l)).trans <| ((out11_at _ _ _ _ _ _ _ _ _ _ r l).trans (congrFun (normed_row m c t r) l)).trans
      (congrArg (normedArray m c) (out_place t r l _ rfl rfl))

/-- The scores, over the whole array. -/
theorem final12 : (dats m 0 c).arrAt 12 cfg0.N = scoreArray m c :=
  (dats m 0 c).arrAt_eq_of_covers 12 _ (by decide +kernel) fun t _ => at_places3 (n := 16) (k := 128) (s := 256) fun p n r =>
    (congrFun (after0_12 m c t) (ix3 p n r)).trans <| ((out12_at _ _ _ _ _ _ _ _ _ _ p n r).trans (score_at m c t p n r)).trans
      (congrArg (scoreArray m c) (out_place3 t p n r _ rfl rfl rfl))

set_option maxHeartbeats 2000000 in
/-- The launch leaves the three arrays, and its arguments as they were. -/
theorem run_whole (ρ : Dev nD → PrngReg) :
    θ_run (defs (F := Ideal)) (onTc (τ := τ) (main (F := Ideal))) ⟨m, fun _ => 0, ρ⟩ fun r => ∀ c : Dev nD,
      r.2.mem ((c : Thread nD τ).loc main_v11_0) = newArray m c
      ∧ r.2.mem ((c : Thread nD τ).loc main_v11_1) = normedArray m c
      ∧ r.2.mem ((c : Thread nD τ).loc main_v11_2) = scoreArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run _ _ _).mono (fun r h c => ?_) (Value.run_blocks (F := Ideal) m ρ)
  obtain ⟨h0, h1, h2, hr⟩ := h c
  exact ⟨h0.trans (final10 m c), h1.trans (final11 m c), h2.trans (final12 m c), hr⟩

end Cert.Merge

end
-- ==== Proof.MergePlain.lean ====
/-
  What the plain merge computes: its three results at an index are the results that the specification names.
-/
module

public import proofs.«01_k».proof.Proof.MergeSpec
public import proofs.«01_k».proof.Proof.Gen.Reference3Ideal.Run
public import Idealize.ShloMosaic.Lib.Pointwise

@[expose] public section

set_option maxRecDepth 16384

noncomputable section

namespace Cert.Merge.Plain

open Cert.Reference3Ideal Cert.Reference3Ideal.Gen Cert.Reference3Ideal.Value Idealize.ShloMosaic Idealize.ShloMosaic.TcCoe Idealize.SL.Sem Idealize.ShloMosaic.StableHlo Finset
open Cert.Projection (unitRow)

/-- The three branches under one index. -/
def stacked (a b d : FVec Ideal S16384x512 .f32) : FVec Ideal S16384x3x512 .f32 :=
  concatenate S16384x3x512 1 [⟨S16384x1x512, broadcastInDim S16384x1x512 ![0, 2] bcast_S16384x512_S16384x1x512_0_2 a⟩,
    ⟨S16384x1x512, broadcastInDim S16384x1x512 ![0, 2] bcast_S16384x512_S16384x1x512_0_2 b⟩,
    ⟨S16384x1x512, broadcastInDim S16384x1x512 ![0, 2] bcast_S16384x512_S16384x1x512_0_2 d⟩]
    concatenates_S16384x1x512_S16384x1x512_S16384x1x512_S16384x3x512_d1

/-- Each branch projected by its own weights. -/
def projected (w : FVec Ideal S3x512x1024 .f32) (y : FVec Ideal S16384x3x512 .f32) : FVec Ideal S16384x3x1024 .f32 :=
  transpose S16384x3x1024 [2, 0, 1] (Host.dotGeneral dot_S3x512x1024_S16384x3x512_S3x1024x16384_1_2_2_0_0_1 none w y)
    transposes_S3x1024x16384_S16384x3x1024_2_0_1

/-- The branches gated and summed. -/
def gated (g : FVec Ideal S16384x3072 .f32) (u : FVec Ideal S16384x3x1024 .f32) : FVec Ideal S16384x1024 .f32 :=
  Host.reduceAdd (mulf (shapeCast S16384x3x1024 g shapeCasts_S16384x3072_S16384x3x1024) u) (constant S_ .f32 0x00000000#32)
    reducesTo_S16384x3x1024_S16384x1024_d1 h_S_

/-- The rows with the output projection added. -/
def added (x u : FVec Ideal S16384x1024 .f32) (w : FVec Ideal S1024x1024 .f32) : FVec Ideal S16384x1024 .f32 :=
  addf x (Host.dotGeneral dot_S16384x1024_S1024x1024_S16384x1024_1_0_0_1_n_n none u w)

/-- The rows normed. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1
    (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The scores of the queries against the subkeys. -/
def scores (h : FVec Ideal S16384x1024 .f32) (w : FVec Ideal S1024x2048 .f32) (s : FVec Ideal S2x8x128x128 .f32) : FVec Ideal S16x128x16384 .f32 :=
  shapeCast S16x128x16384 (transpose S8x2x128x16384 [1, 2, 3, 0] (transpose S16384x8x2x128 [3, 0, 1, 2]
    (Host.dotGeneral dot_S2x8x128x128_S16384x8x2x128_S8x2x128x16384_3_3_2_0_10_12 none s
      (shapeCast S16384x8x2x128 (Host.dotGeneral dot_S16384x1024_S1024x2048_S16384x2048_1_0_0_1_n_n none h w) shapeCasts_S16384x2048_S16384x8x2x128))
    transposes_S8x2x128x16384_S16384x8x2x128_3_0_1_2) transposes_S16384x8x2x128_S8x2x128x16384_1_2_3_0) shapeCasts_S8x2x128x16384_S16x128x16384

theorem stacked_at (a b d : FVec Ideal S16384x512 .f32) (r : Fin 16384) (n : Fin 3) (j : Fin 512) :
    @Eq EReal (stacked a b d (ix3 r n j)) (branch (fun j => a (ix2 r j)) (fun j => b (ix2 r j)) (fun j => d (ix2 r j)) n j) := by
  pointwise [stacked]
  match n with
  | ⟨0, _⟩ => rfl
  | ⟨1, _⟩ => rfl
  | ⟨2, _⟩ => rfl

theorem projected_at (w : FVec Ideal S3x512x1024 .f32) (y : FVec Ideal S16384x3x512 .f32) (r : Fin 16384) (n : Fin 3) (k : Fin 1024) :
    @Eq EReal (projected w y (ix3 r n k)) (∑ j : Fin 512, @HMul.hMul EReal EReal EReal _ (w (ix3 n j k)) (y (ix3 r n j))) := by
  pointwise [projected]

theorem gated_at (g : FVec Ideal S16384x3072 .f32) (u : FVec Ideal S16384x3x1024 .f32) (r : Fin 16384) (k : Fin 1024) :
    @Eq EReal (gated g u (ix2 r k)) (∑ n : Fin 3, @HMul.hMul EReal EReal EReal _ (g (ix2 r ⟨n.val * 1024 + k.val, by omega⟩)) (u (ix3 r n k))) := by
  pointwise [gated]

theorem added_at (x u : FVec Ideal S16384x1024 .f32) (w : FVec Ideal S1024x1024 .f32) (r : Fin 16384) (k : Fin 1024) :
    @Eq EReal (added x u w (ix2 r k)) (newRow (fun k => x (ix2 r k)) (fun j => u (ix2 r j)) (fun j k => w (ix2 j k)) k) := by
  pointwise [added, newRow]

theorem normed_at (x : FVec Ideal S16384x1024 .f32) (g : FVec Ideal S1024 .f32) (r : Fin 16384) (k : Fin 1024) :
    @Eq EReal (normed x g (ix2 r k)) (unitRow (fun k => x (ix2 r k)) (fun k => g (ix1 k)) k) := by
  pointwise [normed, unitRow]

theorem scores_at (h : FVec Ideal S16384x1024 .f32) (w : FVec Ideal S1024x2048 .f32) (s : FVec Ideal S2x8x128x128 .f32)
    (p : Fin 16) (n : Fin 128) (r : Fin 16384) :
    @Eq EReal (scores h w s (ix3 p n r)) (scoreOf (fun k => h (ix2 r k)) w s p n) := by
  have e : ∀ d : Fin 128, (⟨p.val / 2 * 256 + p.val % 2 * 128 + d.val, by omega⟩ : Fin 2048) = ⟨p.val * 128 + d.val, by omega⟩ := fun d => Fin.ext (by
    show p.val / 2 * 256 + p.val % 2 * 128 + d.val = p.val * 128 + d.val; omega)
  pointwise [scores, scoreOf, score]
  refine Finset.sum_congr rfl fun d _ => ?_
  rw [e d]

/-- The rows of the first result. -/
theorem new_at (a0 : FVec Ideal S16384x1024 .f32) (a1 a2 a3 : FVec Ideal S16384x512 .f32) (a4 : FVec Ideal S16384x3072 .f32)
    (a5 : FVec Ideal S3x512x1024 .f32) (a6 : FVec Ideal S1024x1024 .f32) (r : Fin 16384) (k : Fin 1024) :
    @Eq EReal (added a0 (gated a4 (projected a5 (stacked a1 a2 a3))) a6 (ix2 r k)) (newOf a0 a1 a2 a3 a4 a5 a6 r k) := by
  refine (added_at _ _ _ r k).trans ?_
  unfold newOf
  refine congrArg (fun u => newRow (fun k => a0 (ix2 r k)) u (fun j k => a6 (ix2 j k)) k) (funext fun l => (gated_at _ _ r l).trans ?_)
  refine Finset.sum_congr rfl fun n _ => congrArg (fun x : EReal => @HMul.hMul EReal EReal EReal _ (a4 (ix2 r ⟨n.val * 1024 + l.val, by omega⟩)) x) ?_
  refine (projected_at _ _ r n l).trans (Finset.sum_congr rfl fun j _ => ?_)
  rw [mul_comm]
  exact congrArg (fun x : EReal => @HMul.hMul EReal EReal EReal _ x (a5 (ix3 n j l))) (stacked_at a1 a2 a3 r n j)

variable (m : (ℓ : Loc nD τ sig) → Buf (Elt Ideal) ℓ) (c : Dev nD)

/-- The array of the new rows. -/
def newArray : Vec Ideal S16384x1024 .f32 := fun y =>
  newOf (m (c.tc.loc main_arg0)) (m (c.tc.loc main_arg1)) (m (c.tc.loc main_arg2)) (m (c.tc.loc main_arg3)) (m (c.tc.loc main_arg4))
    (m (c.tc.loc main_arg5)) (m (c.tc.loc main_arg6)) (y 0) (y 1)

/-- A row of the new rows, normed. -/
def normedRow (r : Fin 16384) : Fin 1024 → EReal :=
  unitRow (newOf (m (c.tc.loc main_arg0)) (m (c.tc.loc main_arg1)) (m (c.tc.loc main_arg2)) (m (c.tc.loc main_arg3)) (m (c.tc.loc main_arg4))
    (m (c.tc.loc main_arg5)) (m (c.tc.loc main_arg6)) r) (fun k => m (c.tc.loc main_arg7) (ix1 k))

/-- The array of the normed rows. -/
def normedArray : Vec Ideal S16384x1024 .bf16 := fun y => normedRow m c (y 0) (y 1)

/-- The array of the scores. -/
def scoreArray : Vec Ideal S16x128x16384 .f32 := fun y =>
  scoreOf (normedRow m c (y 2)) (m (c.tc.loc main_arg8)) (m (c.tc.loc main_arg9)) (y 0) (y 1)

/-- An array is known by its elements. -/
theorem ext2 {n k : ℕ} {x y : (⟨2, ![n, k]⟩ : Shape).Idx → EReal} (h : ∀ (r : Fin n) (c : Fin k), x (ix2 r c) = y (ix2 r c)) : x = y := by
  funext i
  obtain ⟨r, c, rfl⟩ : ∃ (r : Fin n) (c : Fin k), i = ix2 r c := ⟨i 0, i 1, eq_ix2 i⟩
  exact h r c

/-- An array of three axes is known by its elements. -/
theorem ext3 {n k l : ℕ} {x y : (⟨3, ![n, k, l]⟩ : Shape).Idx → EReal} (h : ∀ (a : Fin n) (b : Fin k) (d : Fin l), x (ix3 a b d) = y (ix3 a b d)) :
    x = y := by
  funext i
  obtain ⟨a, b, d, rfl⟩ : ∃ (a : Fin n) (b : Fin k) (d : Fin l), i = ix3 a b d := ⟨i 0, i 1, i 2, eq_ix3 i⟩
  exact h a b d

/-- The new rows as the plain program computes them. -/
def newSteps : FVec Ideal S16384x1024 .f32 :=
  added (m (c.tc.loc main_arg0)) (gated (m (c.tc.loc main_arg4)) (projected (m (c.tc.loc main_arg5))
    (stacked (m (c.tc.loc main_arg1)) (m (c.tc.loc main_arg2)) (m (c.tc.loc main_arg3))))) (m (c.tc.loc main_arg6))

theorem newSteps_eq : newSteps m c = newArray m c := ext2 fun r k => new_at _ _ _ _ _ _ _ r k

/-- The normed rows as the plain program computes them. -/
theorem normedSteps_at (r : Fin 16384) (k : Fin 1024) : @Eq EReal (normed (newSteps m c) (m (c.tc.loc main_arg7)) (ix2 r k)) (normedRow m c r k) := by
  refine (normed_at _ _ r k).trans ?_
  rw [newSteps_eq]
  rfl

theorem res28_eq : res_main_v28 (F := Ideal) m c = normedArray m c :=
  Eq.trans (b := (normed (newSteps m c) (m (c.tc.loc main_arg7)) : S16384x1024.Idx → EReal)) rfl (ext2 fun r k => normedSteps_at m c r k)

theorem res30_eq : res_main_v30 (F := Ideal) m c = scoreArray m c := by
  refine Eq.trans (b := (scores (normed (newSteps m c) (m (c.tc.loc main_arg7))) (m (c.tc.loc main_arg8)) (m (c.tc.loc main_arg9)) : S16x128x16384.Idx → EReal))
    rfl (ext3 fun p n r => (scores_at _ _ _ p n r).trans ?_)
  exact congrArg (fun h => scoreOf h (m (c.tc.loc main_arg8)) (m (c.tc.loc main_arg9)) p n) (funext fun k => normedSteps_at m c r k)

/-- The plain program's three results. -/
theorem run_whole (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = newArray m c
      ∧ r.2.mem ((c.tc : Thread nD τ).loc main_v28) = normedArray m c
      ∧ r.2.mem ((c.tc : Thread nD τ).loc main_v30) = scoreArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run (F := Ideal) m ρ)
  obtain ⟨h0, h1, h2, hr⟩ := h c
  exact ⟨h0.trans (newSteps_eq m c), h1.trans (res28_eq m c), h2.trans (res30_eq m c), hr⟩

end Cert.Merge.Plain

end
-- ==== Proof.MergeEquation.lean ====
/-
  The two merges give equal arrays: the two runs set side by side.
-/
module

public import proofs.«01_k».proof.Defs
public import proofs.«01_k».proof.Proof.MergeBlocks
public import proofs.«01_k».proof.Proof.MergePlain

@[expose] public section

set_option maxRecDepth 16384

noncomputable section

namespace Cert.Merge

open Idealize.ShloMosaic Idealize.ShloMosaic.TcCoe Idealize.SL.Sem
open Cert.Projection (unitRow)

set_option maxHeartbeats 2000000 in
/-- The kernel's three arrays equal the reference's. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => newArray m c, fun c => normedArray m c, fun c => scoreArray m c, ?_, ?_⟩
  · exact run_whole m g
  · refine (θ_run _ _ _).mono (fun r h c => ?_) (Plain.run_whole m' g')
    obtain ⟨e0, e1, e2, e3, e4, e5, e6, e7, e8, e9⟩ := hm c
    have eu : ∀ r, newOf (m' (c.tc.loc Cert.Reference3Ideal.main_arg0)) (m' (c.tc.loc Cert.Reference3Ideal.main_arg1))
        (m' (c.tc.loc Cert.Reference3Ideal.main_arg2)) (m' (c.tc.loc Cert.Reference3Ideal.main_arg3)) (m' (c.tc.loc Cert.Reference3Ideal.main_arg4))
        (m' (c.tc.loc Cert.Reference3Ideal.main_arg5)) (m' (c.tc.loc Cert.Reference3Ideal.main_arg6)) r
        = newOf (m (c.tc.loc Cert.Kernel3Ideal.main_arg0)) (m (c.tc.loc Cert.Kernel3Ideal.main_arg1))
        (m (c.tc.loc Cert.Kernel3Ideal.main_arg2)) (m (c.tc.loc Cert.Kernel3Ideal.main_arg3)) (m (c.tc.loc Cert.Kernel3Ideal.main_arg4))
        (m (c.tc.loc Cert.Kernel3Ideal.main_arg5)) (m (c.tc.loc Cert.Kernel3Ideal.main_arg6)) r := fun r => by
      rw [e0, e1, e2, e3, e4, e5, e6]
    have eh : ∀ r, Plain.normedRow m' c r = normedRow m c r := fun r => by
      unfold Plain.normedRow normedRow
      rw [eu r, e7]
    have en : Plain.newArray m' c = newArray m c := funext fun y => congrFun (eu (y 0)) (y 1)
    have eo : Plain.normedArray m' c = normedArray m c := funext fun y => congrFun (eh (y 0)) (y 1)
    have es : Plain.scoreArray m' c = scoreArray m c := funext fun y => by
      show scoreOf (Plain.normedRow m' c (y 2)) (m' (c.tc.loc Cert.Reference3Ideal.main_arg8)) (m' (c.tc.loc Cert.Reference3Ideal.main_arg9)) (y 0) (y 1) = _
      refine (congrArg (fun h => scoreOf h _ _ (y 0) (y 1)) (eh (y 2))).trans ?_
      rw [e8, e9]
      rfl
    obtain ⟨h0, h1, h2, hr⟩ := h c
    exact ⟨h0.trans en, h1.trans eo, h2.trans es, hr⟩

end Cert.Merge

end
-- ==== Proof.lean ====
/-
  The claims of `Cert.Claim`, assembled: the frames of the kernel and the reference, and the equation between what
  the kernel computes and what the reference writes, for the differential attention, for the input projection
  and for the merge of the branches.
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equation
public import proofs.«01_k».proof.Proof.ProjectionEquation
public import proofs.«01_k».proof.Proof.MergeEquation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference at the ideal instance runs, keeps its arguments and leaves no semaphore. -/
theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The projection's reference at the ideal instance runs, keeps its arguments and leaves no semaphore. -/
theorem reference2_frame : Cert.quiescent_Reference2Ideal (hReference2Ideal := Cert.Reference2Ideal.Gen.facts) := fun m ρ _ =>
  (θ_run (Cert.Reference2Ideal.defs (F := Ideal)) _ _).mono (fun r h => ⟨fun c => (h c).2.2.2.2.2.2.2.2.2.2, sem_eq_zero_of_no_sems (by decide) r.2⟩)
    (Cert.Reference2Ideal.Value.run (F := Ideal) m ρ)

/-- The merge's reference at the ideal instance runs, keeps its arguments and leaves no semaphore. -/
theorem reference3_frame : Cert.quiescent_Reference3Ideal (hReference3Ideal := Cert.Reference3Ideal.Gen.facts) := fun m ρ _ =>
  (θ_run (Cert.Reference3Ideal.defs (F := Ideal)) _ _).mono (fun r h => ⟨fun c => (h c).2.2.2, sem_eq_zero_of_no_sems (by decide) r.2⟩)
    (Cert.Reference3Ideal.Value.run (F := Ideal) m ρ)

/-- The claims, assembled. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, fun m ρ _ => Cert.Kernel2.Gen.frame m ρ, fun m ρ _ => Cert.Kernel2Ideal.Gen.frame m ρ,
  reference2_frame, fun m ρ _ => Cert.Kernel3.Gen.frame m ρ, fun m ρ _ => Cert.Kernel3Ideal.Gen.frame m ρ, reference3_frame,
  trivial, Cert.Equation.algebraic, trivial, Cert.Projection.algebraic, trivial, Cert.Merge.algebraic⟩

end Cert.Proof

end
